-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S8388608 : Shape := ⟨1, ![8388608]⟩
abbrev S2 : Shape := ⟨1, ![2]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : IVec S8388608 32) (main_arg1 : FVec F S2 .f32) : IVec S_ 1 :=
  let main_c : IVec S_ 32 := constantI S_ 32 0#32
  let main_v0 : IVec S8388608 32 := broadcastInDim S8388608 ![] bcast_S_S8388608 main_c
  let main_v1 : IVec S8388608 1 := cmpi .sge main_arg0 main_v0
  let main_c_0 : IVec S_ 32 := constantI S_ 32 2#32
  let main_v2 : IVec S8388608 32 := broadcastInDim S8388608 ![] bcast_S_S8388608 main_c_0
  let main_v3 : IVec S8388608 1 := cmpi .slt main_arg0 main_v2
  let main_v4 : IVec S8388608 1 := andi main_v1 main_v3
  let main_c_1 : IVec S_ 1 := constantI S_ 1 1#1
  let main_v5 : IVec S_ 1 := (fun x v => Host.reduce IntOp.andi x v reducesTo_S8388608_S_d0 h_S_) main_v4 main_c_1
  main_v5
-- ==== Kernel.lean ====
abbrev S8388608 : Shape := ⟨1, ![8388608]⟩
abbrev S2 : Shape := ⟨1, ![2]⟩
abbrev S512 : Shape := ⟨1, ![512]⟩
abbrev S32768 : Shape := ⟨1, ![32768]⟩
abbrev S16 : Shape := ⟨1, ![16]⟩
abbrev S_ : Shape := ⟨0, ![]⟩
abbrev S4x128 : Shape := ⟨2, ![4, 128]⟩
abbrev S1x128 : Shape := ⟨2, ![1, 128]⟩
abbrev S1x4x128 : Shape := ⟨3, ![1, 4, 128]⟩
abbrev S1 : Shape := ⟨1, ![1]⟩
abbrev S1x1x1 : Shape := ⟨3, ![1, 1, 1]⟩
abbrev S1x2 : Shape := ⟨2, ![1, 2]⟩

abbrev nBuf : Table → Nat
  | .hbm => 10
  | .local .tc .vmem => 3
  | .local .tc .smem => 1
  | .local .scVector .vmem => 3
  | _ => 0

abbrev bufTy : (tb : Table) → Fin (nBuf tb) → BufTy
  | .hbm, ⟨0, _⟩ => ⟨S8388608, .i32⟩
  | .hbm, ⟨1, _⟩ => ⟨S2, .f32⟩
  | .hbm, ⟨2, _⟩ => ⟨S512, .i32⟩
  | .hbm, ⟨3, _⟩ => ⟨S4x128, .i32⟩
  | .hbm, ⟨4, _⟩ => ⟨S1x128, .f32⟩
  | .hbm, ⟨5, _⟩ => ⟨S1x128, .f32⟩
  | .hbm, ⟨6, _⟩ => ⟨S1x2, .f32⟩
  | .hbm, ⟨7, _⟩ => ⟨S2, .f32⟩
  | .hbm, ⟨8, _⟩ => ⟨S1x2, .f32⟩
  | .hbm, ⟨9, _⟩ => ⟨S2, .f32⟩
  | .local .tc .vmem, ⟨0, _⟩ => ⟨S4x128, .i32⟩
  | .local .tc .vmem, ⟨1, _⟩ => ⟨S1x128, .f32⟩
  | .local .tc .vmem, ⟨2, _⟩ => ⟨S1x128, .f32⟩
  | .local .tc .smem, ⟨0, _⟩ => ⟨S2, .f32⟩
  | .local .scVector .vmem, ⟨0, _⟩ => ⟨S32768, .i32⟩
  | .local .scVector .vmem, ⟨1, _⟩ => ⟨S32768, .i32⟩
  | .local .scVector .vmem, ⟨2, _⟩ => ⟨S16, .i32⟩
  | _, _ => ⟨S8388608, .i32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_arg0_scv : Ref sig .scVector := ⟨.hbm, 0, rfl⟩
abbrev main_v0_scv : Ref sig .scVector := ⟨.hbm, 2, rfl⟩
abbrev cc1_stg0_0 : Ref sig .tc := ⟨.vmem, 0, rfl⟩
abbrev cc1_stg2_0 : Ref sig .tc := ⟨.vmem, 1, rfl⟩
abbrev cc1_stg3_0 : Ref sig .tc := ⟨.vmem, 2, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem3_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let v3 : BitVec 32 := Scalar.addi v2 c0_i32
  ![v3.toNat]
@[reducible] def k0_t1_loop : Scf.Loop 32 :=
  let c0_i32_5 : BitVec 32 := 0#32
  let c512_i32 : BitVec 32 := 512#32
  let v16 : BitVec 32 := Scalar.addi c0_i32_5 c512_i32
  let c1_i32 : BitVec 32 := 1#32
  ⟨c0_i32_5, v16, c1_i32⟩
def k0_off2 (k0_t1 : Fin k0_t1_loop.trips) (c0_i32_42 : BitVec 32) : Fin 1 → Nat :=
  let c0_i32_5 : BitVec 32 := 0#32
  let c1_i32 : BitVec 32 := 1#32
  let arg9 : BitVec 32 := Scf.iv c0_i32_5 c1_i32 k0_t1
  let c64_i32 : BitVec 32 := 64#32
  let v78 : BitVec 32 := Scalar.muli arg9 c64_i32
  let v79 : BitVec 32 := Scalar.addi v78 c0_i32_42
  let v80 : Index := Scalar.indexCast v79
  ![v80.toNat]
@[reducible] def k0_t2_loop : Scf.Loop 32 :=
  let c0_i32_8 : BitVec 32 := 0#32
  let c512_i32_9 : BitVec 32 := 512#32
  let v24 : BitVec 32 := Scalar.addi c0_i32_8 c512_i32_9
  let c1_i32_10 : BitVec 32 := 1#32
  ⟨c0_i32_8, v24, c1_i32_10⟩
def k0_off3 (k0_t2 : Fin k0_t2_loop.trips) (c0_i32_42 : BitVec 32) : Fin 1 → Nat :=
  let c0_i32_8 : BitVec 32 := 0#32
  let c1_i32_10 : BitVec 32 := 1#32
  let arg9 : BitVec 32 := Scf.iv c0_i32_8 c1_i32_10 k0_t2
  let c64_i32 : BitVec 32 := 64#32
  let v78 : BitVec 32 := Scalar.muli arg9 c64_i32
  let v79 : BitVec 32 := Scalar.addi v78 c0_i32_42
  let v80 : Index := Scalar.indexCast v79
  ![v80.toNat]
@[reducible] def k0_t3_loop : Scf.Loop 32 :=
  let c0_i32_13 : BitVec 32 := 0#32
  let c512_i32_14 : BitVec 32 := 512#32
  let v32 : BitVec 32 := Scalar.addi c0_i32_13 c512_i32_14
  let c1_i32_15 : BitVec 32 := 1#32
  ⟨c0_i32_13, v32, c1_i32_15⟩
def k0_off4 (k0_t3 : Fin k0_t3_loop.trips) (c0_i32_42 : BitVec 32) : Fin 1 → Nat :=
  let c0_i32_13 : BitVec 32 := 0#32
  let c1_i32_15 : BitVec 32 := 1#32
  let arg9 : BitVec 32 := Scf.iv c0_i32_13 c1_i32_15 k0_t3
  let c64_i32 : BitVec 32 := 64#32
  let v78 : BitVec 32 := Scalar.muli arg9 c64_i32
  let v79 : BitVec 32 := Scalar.addi v78 c0_i32_42
  let v80 : Index := Scalar.indexCast v79
  ![v80.toNat]
@[reducible] def k0_t4_loop : Scf.Loop 32 :=
  let c0_i32_18 : BitVec 32 := 0#32
  let c512_i32_19 : BitVec 32 := 512#32
  let v40 : BitVec 32 := Scalar.addi c0_i32_18 c512_i32_19
  let c1_i32_20 : BitVec 32 := 1#32
  ⟨c0_i32_18, v40, c1_i32_20⟩
def k0_off5 (k0_t4 : Fin k0_t4_loop.trips) (c0_i32_42 : BitVec 32) : Fin 1 → Nat :=
  let c0_i32_18 : BitVec 32 := 0#32
  let c1_i32_20 : BitVec 32 := 1#32
  let arg9 : BitVec 32 := Scf.iv c0_i32_18 c1_i32_20 k0_t4
  let c64_i32 : BitVec 32 := 64#32
  let v78 : BitVec 32 := Scalar.muli arg9 c64_i32
  let v79 : BitVec 32 := Scalar.addi v78 c0_i32_42
  let v80 : Index := Scalar.indexCast v79
  ![v80.toNat]
@[reducible] def k0_t5_loop : Scf.Loop 32 :=
  let c0_i32_23 : BitVec 32 := 0#32
  let c512_i32_24 : BitVec 32 := 512#32
  let v48 : BitVec 32 := Scalar.addi c0_i32_23 c512_i32_24
  let c1_i32_25 : BitVec 32 := 1#32
  ⟨c0_i32_23, v48, c1_i32_25⟩
def k0_off6 (k0_t5 : Fin k0_t5_loop.trips) (c0_i32_42 : BitVec 32) : Fin 1 → Nat :=
  let c0_i32_23 : BitVec 32 := 0#32
  let c1_i32_25 : BitVec 32 := 1#32
  let arg9 : BitVec 32 := Scf.iv c0_i32_23 c1_i32_25 k0_t5
  let c64_i32 : BitVec 32 := 64#32
  let v78 : BitVec 32 := Scalar.muli arg9 c64_i32
  let v79 : BitVec 32 := Scalar.addi v78 c0_i32_42
  let v80 : Index := Scalar.indexCast v79
  ![v80.toNat]
@[reducible] def k0_t6_loop : Scf.Loop 32 :=
  let c0_i32_28 : BitVec 32 := 0#32
  let c512_i32_29 : BitVec 32 := 512#32
  let v56 : BitVec 32 := Scalar.addi c0_i32_28 c512_i32_29
  let c1_i32_30 : BitVec 32 := 1#32
  ⟨c0_i32_28, v56, c1_i32_30⟩
def k0_off7 (k0_t6 : Fin k0_t6_loop.trips) (c0_i32_42 : BitVec 32) : Fin 1 → Nat :=
  let c0_i32_28 : BitVec 32 := 0#32
  let c1_i32_30 : BitVec 32 := 1#32
  let arg9 : BitVec 32 := Scf.iv c0_i32_28 c1_i32_30 k0_t6
  let c64_i32 : BitVec 32 := 64#32
  let v78 : BitVec 32 := Scalar.muli arg9 c64_i32
  let v79 : BitVec 32 := Scalar.addi v78 c0_i32_42
  let v80 : Index := Scalar.indexCast v79
  ![v80.toNat]
@[reducible] def k0_t7_loop : Scf.Loop 32 :=
  let c0_i32_33 : BitVec 32 := 0#32
  let c512_i32_34 : BitVec 32 := 512#32
  let v64 : BitVec 32 := Scalar.addi c0_i32_33 c512_i32_34
  let c1_i32_35 : BitVec 32 := 1#32
  ⟨c0_i32_33, v64, c1_i32_35⟩
def k0_off8 (k0_t7 : Fin k0_t7_loop.trips) (c0_i32_42 : BitVec 32) : Fin 1 → Nat :=
  let c0_i32_33 : BitVec 32 := 0#32
  let c1_i32_35 : BitVec 32 := 1#32
  let arg9 : BitVec 32 := Scf.iv c0_i32_33 c1_i32_35 k0_t7
  let c64_i32 : BitVec 32 := 64#32
  let v78 : BitVec 32 := Scalar.muli arg9 c64_i32
  let v79 : BitVec 32 := Scalar.addi v78 c0_i32_42
  let v80 : Index := Scalar.indexCast v79
  ![v80.toNat]
@[reducible] def k0_t8_loop : Scf.Loop 32 :=
  let c0_i32_38 : BitVec 32 := 0#32
  let c512_i32_39 : BitVec 32 := 512#32
  let v69 : BitVec 32 := Scalar.addi c0_i32_38 c512_i32_39
  let c1_i32_40 : BitVec 32 := 1#32
  ⟨c0_i32_38, v69, c1_i32_40⟩
def k0_off9 (k0_t8 : Fin k0_t8_loop.trips) (c0_i32_42 : BitVec 32) : Fin 1 → Nat :=
  let c0_i32_38 : BitVec 32 := 0#32
  let c1_i32_40 : BitVec 32 := 1#32
  let arg9 : BitVec 32 := Scf.iv c0_i32_38 c1_i32_40 k0_t8
  let c64_i32 : BitVec 32 := 64#32
  let v78 : BitVec 32 := Scalar.muli arg9 c64_i32
  let v79 : BitVec 32 := Scalar.addi v78 c0_i32_42
  let v80 : Index := Scalar.indexCast v79
  ![v80.toNat]
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v77 : BitVec 32 := Scalar.muli v1 c16_i32
  ![v77.toNat]
abbrev grid1 : Pipeline.Grid := .none

abbrev stage1_0 : Fin 1 → Memref sig .tc .vmem S4x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608 : Shape := ⟨1, ![8388608]⟩
abbrev S2 : Shape := ⟨1, ![2]⟩
abbrev S_ : Shape := ⟨0, ![]⟩
abbrev S8388608x1 : Shape := ⟨2, ![8388608, 1]⟩

abbrev nBuf : Space → Nat
  | .hbm => 45
  | .vmem => 0
  | .smem => 0
  | _ => 0

abbrev bufTy : (tb : Table) → Fin (tcTables nBuf tb) → BufTy
  | .hbm, ⟨0, _⟩ => ⟨S8388608, .i32⟩
  | .hbm, ⟨1, _⟩ => ⟨S2, .f32⟩
  | .hbm, ⟨2, _⟩ => ⟨S_, .i32⟩
  | .hbm, ⟨3, _⟩ => ⟨S2, .i32⟩
  | .hbm, ⟨4, _⟩ => ⟨S_, .i32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i1⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608, .i32⟩
  | .hbm, ⟨15, _⟩ => ⟨S8388608x1, .i32⟩
  | .hbm, ⟨16, _⟩ => ⟨S_, .i32⟩
  | .hbm, ⟨17, _⟩ => ⟨S8388608, .i32⟩
  | .hbm, ⟨18, _⟩ => ⟨S2, .i32⟩
  | .hbm, ⟨19, _⟩ => ⟨S2, .f32⟩
  | .hbm, ⟨20, _⟩ => ⟨S_, .f32⟩
  | .hbm, ⟨21, _⟩ => ⟨S2, .f32⟩
  | .hbm, ⟨22, _⟩ => ⟨S2, .f32⟩
  | .hbm, ⟨23, _⟩ => ⟨S_, .f32⟩
  | .hbm, ⟨24, _⟩ => ⟨S2, .f32⟩
  | .hbm, ⟨25, _⟩ => ⟨S2, .f32⟩
  | .hbm, ⟨26, _⟩ => ⟨S2, .f32⟩
  | .hbm, ⟨27, _⟩ => ⟨S_, .f32⟩
  | .hbm, ⟨28, _⟩ => ⟨S2, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2, .f32⟩
  | .hbm, ⟨44, _⟩ => ⟨S2, .f32⟩
  | _, _ => ⟨S8388608, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_cst_9 : Ref sig .tc := ⟨.hbm, 39, rfl⟩
abbrev main_v24 : Ref sig .tc := ⟨.hbm, 40, rfl⟩
abbrev main_cst_10 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Setup.lean ====
/-
  What the proof modules share: the program as the SparseCore launch theorem takes it (its labels, its body table, its
  launch configuration), the resource algebra the separation logic runs over — the launch handshakes' rounds, the
  TensorCore pipeline's rounds and the transfers' counters side by side —, and the locations of @main's arrays.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.VecWindow
public import Idealize.ShloMosaic.Lib.Tactic
public import Mathlib.Data.BitVec
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.LabelSum

open Cert.KernelIdeal Cert.KernelIdeal.Gen

open Idealize.ShloMosaic
open Idealize.SL Idealize.SL.RA Idealize.SL.BI Idealize.SL.Sem
open Idealize.ShloMosaic.Rounds

variable {F : FTy → Type}

/-! ## The program as the launch theorem sees it -/

/-- The TensorCore call's labels; -/
abbrev ΛP : Labels := Pipeline.Sig Λ₀ (Fin 1) fun p => (pcfgs (F := F) p).Adm
/-- the SparseCore call; -/
abbrev K : SparseCore.Cfg τ sig (ΛP (F := F)) 1 := sc (F := F)
/-- the TensorCore program's procedures; -/
abbrev D [FloatOps F] : Defs nD τ sig (Elt F) (ΛP (F := F)) := Pipeline.defs pcfgs defs₀
/-- no loop's measure, -/
abbrev 𝒱₀ : Variants := Variants.none
/-- lifted, -/
abbrev 𝒱 : Variants := 𝒱₀.lift
/-- and its one value. -/
abbrev v₀ : 𝒱.V := Sum.inl none

/-- The call runs on sixteen subcores -/
theorem nSub_zero : (K (F := F)).nSub 0 = 16 := rfl
/-- of two SparseCores. -/
theorem nCore_zero : (K (F := F)).nCore 0 = 2 := rfl

/-- The call's semaphores and buffers are where the launch theorem wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' algebra, -/
abbrev UH : Type := URounds (GSem nD τ sig) ℕ
/-- the pipeline's, -/
abbrev UP : Type := UR sig nD τ
/-- and both, with counters. -/
abbrev UU : Type := UH × (UP × Counters)

/-- The handshakes' rounds, in the machine's algebra; -/
abbrev EH : Emb UH (MT nD τ sig (SparseCore.Cfg.HIx 1) (Elt F) ℕ UU ℕ) := embL
/-- the pipeline's rounds. -/
abbrev EP : Emb UP (MT nD τ sig (SparseCore.Cfg.HIx 1) (Elt F) ℕ UU ℕ) :=
  (Emb.inl : Emb UP (UP × Counters)).trans embR

/-- The pipeline's rounds lie in the user's part of the machine's algebra. -/
instance EP_landsIn : (EP (F := F)).LandsIn (upEmb : UEmb _ (MT nD τ sig (SparseCore.Cfg.HIx 1) (Elt F) ℕ UU ℕ)) := by
  unfold EP embR; infer_instance

/-! ## @main's arrays -/

/-- The labels' array; -/
abbrev yLoc (d : Dev nD) : Loc nD τ sig := (SparseCore.T d).loc main_arg0
/-- the old counts'; -/
abbrev cLoc (d : Dev nD) : Loc nD τ sig := (SparseCore.T d).loc main_arg1
/-- the partial sums'. -/
abbrev oLoc (d : Dev nD) : Loc nD τ sig := (SparseCore.T d).loc main_v0

end Cert.Proof.LabelSum

end
-- ==== Proof.Words.lean ====
/-
  Sums of a buffer's words, as a tile forms them: a list of words read at a natural number, the sixteen lanes the loop
  reads at one offset, and the four running sums after some number of trips.
-/
module

public import proofs.«01_k».proof.Proof.Setup

@[expose] public section

noncomputable section

namespace Cert.Proof.LabelSum

open Cert.KernelIdeal Cert.KernelIdeal.Gen
open Idealize.ShloMosaic

/-- Word `k` of a list of `n` words; zero past its end. -/
def word {n : ℕ} (f : (⟨1, ![n]⟩ : Shape).Idx → BitVec 32) (k : ℕ) : BitVec 32 :=
  if h : k < n then f (fun a => match a with | 0 => ⟨k, h⟩) else 0

/-- Reading an index's own number reads the list there. -/
theorem word_idx {n : ℕ} (f : (⟨1, ![n]⟩ : Shape).Idx → BitVec 32) (x : (⟨1, ![n]⟩ : Shape).Idx) : word f (x 0).val = f x := by
  have h : (x 0).val < n := (x 0).isLt
  unfold word
  rw [dif_pos h]
  congr 1
  funext a
  match a with
  | 0 => rfl

/-- Running sum `c` after `n` trips: lane `l` has summed words `64 t + 16 c + l` of the trips `t < n`. -/
def lanes (f : S32768.Idx → BitVec 32) (n c : ℕ) : IVec S16 32 :=
  fun x => ∑ t ∈ Finset.range n, word f (64 * t + 16 * c + (x 0).val)

/-- One trip more adds one word to each lane. -/
theorem lanes_succ (f : S32768.Idx → BitVec 32) (n c : ℕ) (x : S16.Idx) :
    lanes f (n + 1) c x = lanes f n c x + word f (64 * n + 16 * c + (x 0).val) := Finset.sum_range_succ _ _

/-- Before the first trip every lane is zero. -/
theorem lanes_zero (f : S32768.Idx → BitVec 32) (c : ℕ) (x : S16.Idx) : lanes f 0 c x = 0 := Finset.sum_range_zero _

end Cert.Proof.LabelSum

end
-- ==== Proof.Loop.lean ====
/-
  The tile's inner loop, once for all eight chunks: from a scratch buffer at any contents, 512 trips add to each of the
  four running sums the words of its lanes, and leave the buffer as it was.
-/
module

public import proofs.«01_k».proof.Proof.Words

@[expose] public section

noncomputable section

namespace Cert.Proof.LabelSum

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "yV" => (Memref.whole Cert.KernelIdeal.main_arg0_scv : Memref Cert.KernelIdeal.sig Kind.scVector Space.hbm Cert.KernelIdeal.S8388608 EltTy.i32)
local notation "oV" => (Memref.whole Cert.KernelIdeal.main_v0_scv : Memref Cert.KernelIdeal.sig Kind.scVector Space.hbm Cert.KernelIdeal.S512 EltTy.i32)
local notation "rV" => (Memref.whole Cert.KernelIdeal.cc0_scratch2 : Memref Cert.KernelIdeal.sig Kind.scVector Space.vmem Cert.KernelIdeal.S16 EltTy.i32)

/-- The SparseCore the task runs on; -/
abbrev cV (L : grid0.Coords) : Fin τ.nSC := (L 0).castLE hcore0
/-- its subcore there. -/
abbrev jV (L : grid0.Coords) : Fin τ.nSub := (L 1).castLE hsub0

/-- The four running sums. -/
abbrev Sums : Type := IVec S16 32 × IVec S16 32 × IVec S16 32 × IVec S16 32

/-- The running sums after `n` trips from `a`. -/
def sumsAt (a : Sums) (f : S32768.Idx → BitVec 32) (n : ℕ) : Sums :=
  (addi a.1 (lanes f n 0), addi a.2.1 (lanes f n 1), addi a.2.2.1 (lanes f n 2), addi a.2.2.2 (lanes f n 3))

/-- No trip adds nothing. -/
theorem sumsAt_zero (a : Sums) (f : S32768.Idx → BitVec 32) : sumsAt a f 0 = a := by
  have h : ∀ (v : IVec S16 32) (c : ℕ), addi v (lanes f 0 c) = v := fun v c => funext fun x => by
    show v x + lanes f 0 c x = v x
    rw [lanes_zero, add_zero]
  simp only [sumsAt, h]

/-- Sixteen words read at trip `k`'s row `c` of sixty-four. -/
theorem readAt_row {b : Memref sig .scVector .vmem S32768 .i32} (g : b.view.ty.Contents (Elt F)) {k c : ℕ} {off : Fin 1 → ℕ} (hoff : off = ![64 * k + 16 * c])
    (inb : ∀ a, off a + S16.size a ≤ S32768.size a) (x : S16.Idx) :
    b.view.readAt (Elt F) (Rect.unit (s := S32768) off S16.size inb).toLoadRect g x
      = word (b.view.read (Elt F) g) (64 * k + 16 * c + (x 0).val) := by
  subst hoff
  rw [View.readAt_apply, ← word_idx (b.view.read (Elt F) g)]
  congr 1
  show 64 * k + 16 * c + 1 * (x 0).val = _
  omega

/-- One trip adds its row to a running sum. -/
theorem row_added {b : Memref sig .scVector .vmem S32768 .i32} (g : b.view.ty.Contents (Elt F)) {k c : ℕ} {off : Fin 1 → ℕ} (hoff : off = ![64 * k + 16 * c])
    (inb : ∀ a, off a + S16.size a ≤ S32768.size a) (v : IVec S16 32) :
    addi (addi v (lanes (b.view.read (Elt F) g) k c))
        (shapeCast S16 (b.view.readAt (Elt F) (Rect.unit (s := S32768) off S16.size inb).toLoadRect g : IVec S16 32) shapeCasts_S16_S16)
      = addi v (lanes (b.view.read (Elt F) g) (k + 1) c) := by
  refine (congrArg (addi _) (shapeCast_self (s := S16) _ _)).trans ?_
  funext x
  show v x + lanes _ k c x + b.view.readAt (Elt F) (Rect.unit (s := S32768) off S16.size inb).toLoadRect g x = v x + lanes _ (k + 1) c x
  rw [readAt_row g hoff inb x, lanes_succ, add_assoc]

/-- A chunk takes 512 trips. -/
theorem trips_loop : Scf.trips k0_t1_loop.lb k0_t1_loop.ub k0_t1_loop.st = 512 := by decide

variable (d : Dev nD) (L : grid0.Coords) (b : Memref sig .scVector .vmem S32768 .i32)

/-- One trip's region over buffer `b`; of its other operands it reads none. -/
abbrev tripOn (hb : b.IsWhole) : Fin k0_t1_loop.trips → Sums → Prog (TpuEff nD τ sig (Elt F) Λ₀ (.scVector (cV L) (jV L))) Sums :=
  k0_t1_body L yV (Memref.isWhole_whole _) oV (Memref.isWhole_whole _) b hb b hb rV (Memref.isWhole_whole _) cc0_scratch3 cc0_scratch4 cc0_scoped0

/-- What holds before trip `n`: the buffer as it was, the running sums those of `n` trips. -/
def loopInv (a : Sums) (g : Buf (Elt F) (b.view.loc (V d (cV L) (jV L)))) (n : ℕ) (s : Sums) : sProp 𝕄 :=
  iprop((b.view.loc (V d (cV L) (jV L)) ↦{fullShare} g) ∗ ⌜s = sumsAt a (b.view.read (Elt F) g) n⌝)

/-- The loop over a buffer at contents `g`, the running sums starting at `a`: the buffer is kept, and every running sum
    has gained its words. -/
theorem loop_wp (hb : b.IsWhole) (a : Sums) (g : Buf (Elt F) (b.view.loc (V d (cV L) (jV L)))) :
    (b.view.loc (V d (cV L) (jV L)) ↦{fullShare} g : sProp 𝕄)
      ⊢ wp frame (wpE (defs₀ (F := F)) 𝒱₀ (V d (cV L) (jV L)) none) Set.univ
          (Scf.Loop.for k0_t1_loop k0_t1_ok a (tripOn L b hb))
          fun s => iprop((b.view.loc (V d (cV L) (jV L)) ↦{fullShare} g) ∗ ⌜s = sumsAt a (b.view.read (Elt F) g) 512⌝) := by
  iintro Hb
  sl_for (loopInv d L b a g) $$ [Hb]
  case region =>
    intro k s
    unfold loopInv
    iintro ⟨Hb, %hs⟩
    sl_exec
    sl_step
    isplitl [Hb]; · iexact Hb
    ipureintro
    subst hs
    refine Prod.ext ?_ (Prod.ext ?_ (Prod.ext ?_ ?_))
    · exact row_added g (k0_off2_eq k 0) _ _
    · exact row_added g (k0_off2_eq k 1) _ _
    · exact row_added g (k0_off2_eq k 2) _ _
    · exact row_added g (k0_off2_eq k 3) _ _
  · unfold loopInv
    isplitl [Hb]
    · isplitl [Hb]; · iexact Hb
      ipureintro; exact (sumsAt_zero _ _).symm
    · iintro %s ⟨Hb, %hs⟩
      isplitl [Hb]; · iexact Hb
      ipureintro; exact hs.trans (by rw [trips_loop])

/-- The same, as a step of a longer program: any of the kernel's loops, its region this one's by unfolding. -/
theorem loop_then (hb : b.IsWhole) {a : Sums} {g : Buf (Elt F) (b.view.loc (V d (cV L) (jV L)))}
    {body : Fin k0_t1_loop.trips → Sums → Prog (TpuEff nD τ sig (Elt F) Λ₀ (.scVector (cV L) (jV L))) Sums}
    (hbody : body = tripOn L b hb)
    {β : Type} (k : Sums → Prog (TpuEff nD τ sig (Elt F) Λ₀ (.scVector (cV L) (jV L))) β) (Q : β → sProp 𝕄) :
    iprop((b.view.loc (V d (cV L) (jV L)) ↦{fullShare} g)
        ∗ ((b.view.loc (V d (cV L) (jV L)) ↦{fullShare} g)
            -∗ ∀ s₀ s₁ s₂ s₃, ⌜(s₀, s₁, s₂, s₃) = sumsAt a (b.view.read (Elt F) g) 512⌝
              -∗ wp frame (wpE (defs₀ (F := F)) 𝒱₀ (V d (cV L) (jV L)) none) Set.univ (k (s₀, s₁, s₂, s₃)) Q))
      ⊢ wp frame (wpE (defs₀ (F := F)) 𝒱₀ (V d (cV L) (jV L)) none) Set.univ (Scf.Loop.for k0_t1_loop k0_t1_ok a body >>= k) Q := by
  subst hbody
  rw [wp_bind]
  refine BI.Entails.trans (BI.sep_mono_l (loop_wp d L b hb a g)) ?_
  refine (wp_frame_r frame _ _).trans (wp_mono frame _ _ fun s => ?_)
  obtain ⟨s₀, s₁, s₂, s₃⟩ := s
  iintro ⟨⟨Hb, %hs⟩, Hk⟩
  ihave Hk' := Hk $$ Hb
  iapply Hk' $$ %s₀ %s₁ %s₂ %s₃
  ipureintro; exact hs

/-- And as the first step of a part of it. -/
theorem loop_then_in (hb : b.IsWhole) {a : Sums} {g : Buf (Elt F) (b.view.loc (V d (cV L) (jV L)))}
    {body : Fin k0_t1_loop.trips → Sums → Prog (TpuEff nD τ sig (Elt F) Λ₀ (.scVector (cV L) (jV L))) Sums}
    (hbody : body = tripOn L b hb)
    {α β : Type} (k : Sums → Prog (TpuEff nD τ sig (Elt F) Λ₀ (.scVector (cV L) (jV L))) α)
    (k' : α → Prog (TpuEff nD τ sig (Elt F) Λ₀ (.scVector (cV L) (jV L))) β) (Q : β → sProp 𝕄) :
    iprop((b.view.loc (V d (cV L) (jV L)) ↦{fullShare} g)
        ∗ ((b.view.loc (V d (cV L) (jV L)) ↦{fullShare} g)
            -∗ ∀ s₀ s₁ s₂ s₃, ⌜(s₀, s₁, s₂, s₃) = sumsAt a (b.view.read (Elt F) g) 512⌝
              -∗ wp frame (wpE (defs₀ (F := F)) 𝒱₀ (V d (cV L) (jV L)) none) Set.univ (k (s₀, s₁, s₂, s₃) >>= k') Q))
      ⊢ wp frame (wpE (defs₀ (F := F)) 𝒱₀ (V d (cV L) (jV L)) none) Set.univ (Scf.Loop.for k0_t1_loop k0_t1_ok a body >>= k >>= k') Q := by
  rw [bind_assoc]
  exact loop_then d L b hb hbody (fun s => k s >>= k') Q

end Cert.Proof.LabelSum

end
-- ==== Proof.Tile.lean ====
/-
  One tile's task: its eight chunks of the labels fetched in turn, two in flight at a time, each summed by the loop
  (Loop.lean), the four running sums added up and the sixteen lanes written to the tile's row of the partial sums.
-/
module

public import proofs.«01_k».proof.Proof.Loop

@[expose] public section

noncomputable section

namespace Cert.Proof.LabelSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_arg0_scv : Memref Cert.KernelIdeal.sig Kind.scVector Space.hbm Cert.KernelIdeal.S8388608 EltTy.i32)
local notation "oV" => (Memref.whole Cert.KernelIdeal.main_v0_scv : Memref Cert.KernelIdeal.sig Kind.scVector Space.hbm Cert.KernelIdeal.S512 EltTy.i32)
local notation "aV" => (Memref.whole Cert.KernelIdeal.cc0_scratch0 : Memref Cert.KernelIdeal.sig Kind.scVector Space.vmem Cert.KernelIdeal.S32768 EltTy.i32)
local notation "bV" => (Memref.whole Cert.KernelIdeal.cc0_scratch1 : Memref Cert.KernelIdeal.sig Kind.scVector Space.vmem Cert.KernelIdeal.S32768 EltTy.i32)
local notation "rV" => (Memref.whole Cert.KernelIdeal.cc0_scratch2 : Memref Cert.KernelIdeal.sig Kind.scVector Space.vmem Cert.KernelIdeal.S16 EltTy.i32)

/-! ## The tile's own storage -/

section Own

variable (d : Dev nD) (L : grid0.Coords)

/-- A semaphore of the task's, on its subcore. -/
abbrev cell (e : DmaSems sig S_) : GSem nD τ sig := (V d (cV L) (jV L), .dma e.sem)

/-- The task's three semaphores are among the subcore's own: they are them, at zero, and the rest. -/
theorem ownSems0_V :
    (ownSems0 (V d (cV L) (jV L)) : sProp 𝕄)
      = iprop(semVal (cell d L cc0_scratch3) 0 ∗ semVal (cell d L cc0_scratch4) 0 ∗ semVal (cell d L cc0_scoped0) 0
          ∗ bigSep ((((ownCells (V d (cV L) (jV L))).erase (cell d L cc0_scratch3)).erase (cell d L cc0_scratch4)).erase (cell d L cc0_scoped0)) fun g => semVal g 0) := by
  unfold SparseCore.Cfg.ownSems0
  rw [SparseCore.bigSep_erase' ((mem_ownCells (g := cell d L cc0_scratch3)).mpr ⟨rfl, by
      show (SemLoc.dma cc0_scratch3.sem : SemLoc sig).isScoped .scVector = true; decide⟩),
    SparseCore.bigSep_erase' (Finset.mem_erase.mpr ⟨by simp [cell]; decide, (mem_ownCells (g := cell d L cc0_scratch4)).mpr ⟨rfl, by
      show (SemLoc.dma cc0_scratch4.sem : SemLoc sig).isScoped .scVector = true; decide⟩⟩),
    SparseCore.bigSep_erase' (Finset.mem_erase.mpr ⟨by simp [cell]; decide, Finset.mem_erase.mpr ⟨by simp [cell]; decide,
      (mem_ownCells (g := cell d L cc0_scoped0)).mpr ⟨rfl, by show (SemLoc.dma cc0_scoped0.sem : SemLoc sig).isScoped .scVector = true; decide⟩⟩⟩)]

/-- A buffer of the task's, on its subcore. -/
abbrev own (r : Ref sig .scVector) : DevRef τ sig := (Proc.scVector (cV L) (jV L)).devRef r

/-- A buffer the subcore owns is among the subcore's own. -/
theorem mem_own {r : Ref sig .scVector} (h : (own L r).owner = .proc (Proc.scVector (cV L) (jV L))) :
    own L r ∈ ownRefs (τ := τ) (.scVector (cV L) (jV L)) :=
  SparseCore.Cfg.mem_ownRefs_of_owner (p := Proc.scVector (cV L) (jV L)) h

/-- Two buffers stay two there. -/
theorem own_ne {r r' : Ref sig .scVector} (h : r ≠ r') : own L r ≠ own L r' := fun e => h (Proc.devRef_injective _ e)

/-- The task's three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (own L cc0_scratch0)).erase (own L cc0_scratch1)).erase (own L cc0_scratch2))
              fun b => iprop(∃ f, ((d, b) : Loc nD τ sig) ↦{fullShare} f)) := by
  unfold SparseCore.Cfg.ownBufs
  refine (SparseCore.bigSep_erase' (mem_own L (r := cc0_scratch0) rfl)).trans ?_
  rw [SparseCore.bigSep_erase' (Finset.mem_erase.mpr ⟨own_ne L (show cc0_scratch1 ≠ cc0_scratch0 by decide), mem_own L (r := cc0_scratch1) rfl⟩),
    SparseCore.bigSep_erase' (Finset.mem_erase.mpr ⟨own_ne L (show cc0_scratch2 ≠ cc0_scratch1 by decide),
      Finset.mem_erase.mpr ⟨own_ne L (show cc0_scratch2 ≠ cc0_scratch0 by decide), mem_own L (r := cc0_scratch2) rfl⟩⟩)]

end Own

/-! ## The task's windows -/

/-- Chunk `r` of the tile's labels, as the task addresses it. -/
abbrev yChunkK (L : grid0.Coords) (r : Fin 8) : Memref sig .scVector .hbm S32768 .i32 :=
  (yV).slice (Rect.unit (s := S8388608) (k0_off1 L (BitVec.ofNat 32 (32768 * r.val))) S32768.size (k0_off1_inb L r)) (fun _ => rfl)
/-- The tile's row of the partial sums, as the task addresses it. -/
abbrev oRowK (L : grid0.Coords) : Memref sig .scVector .hbm S16 .i32 :=
  (oV).slice (Rect.unit (s := S512) (k0_off10 L) S16.size (k0_off10_inb L)) (fun _ => rfl)

variable [FloatOps F]

section Run

variable (d : Dev nD) (L : grid0.Coords) (y : Buf (Elt F) (yLoc d)) (fo : Buf (Elt F) (oLoc d))

/-- The tile's chunk `r`, held by its own elements. -/
abbrev chunkPts (r : Fin 8) : sProp 𝕄 := (yChunkK L r).view.loc (V d (cV L) (jV L)) ↦[(yChunkK L r).view.set]{fullShare} y

/-- What the task leaves in its row: the lane sums of its eight chunks, added up. -/
def rowSums (c : Fin 8 → S32768.Idx → BitVec 32) : IVec S16 32 :=
  let s := sumsAt (sumsAt (sumsAt (sumsAt (sumsAt (sumsAt (sumsAt (sumsAt (k0_pay10, k0_pay11, k0_pay12, k0_pay13)
    (c 0) 512) (c 1) 512) (c 2) 512) (c 3) 512) (c 4) 512) (c 5) 512) (c 6) 512) (c 7) 512
  k0_pay9 s.1 s.2.1 s.2.2.1 s.2.2.2

/-- Eight loops' sums, one after another, are the row's. -/
theorem rowSums_of {c : Fin 8 → S32768.Idx → BitVec 32} {s₀ s₁ s₂ s₃ s₄ s₅ s₆ s₇ : Sums}
    (h₀ : s₀ = sumsAt (k0_pay10, k0_pay11, k0_pay12, k0_pay13) (c 0) 512) (h₁ : s₁ = sumsAt s₀ (c 1) 512) (h₂ : s₂ = sumsAt s₁ (c 2) 512)
    (h₃ : s₃ = sumsAt s₂ (c 3) 512) (h₄ : s₄ = sumsAt s₃ (c 4) 512) (h₅ : s₅ = sumsAt s₄ (c 5) 512) (h₆ : s₆ = sumsAt s₅ (c 6) 512)
    (h₇ : s₇ = sumsAt s₆ (c 7) 512) : k0_pay9 s₇.1 s₇.2.1 s₇.2.2.1 s₇.2.2.2 = rowSums c := by
  unfold rowSums
  rw [← h₀, ← h₁, ← h₂, ← h₃, ← h₄, ← h₅, ← h₆, ← h₇]

set_option maxHeartbeats 1000000 in
/-- The task on vector subcore `(L 0, L 1)` of device `d`, from its eight chunks of the labels, its row of the partial sums,
    its scratch and its semaphores at zero: the chunks, the scratch and the semaphores come back, the row reads the chunks'
    sums. -/
theorem tile_run (O : CellTallies nD τ sig (HIx 1)) (W : Waits sig (HIx 1)) (hO : ∀ g, O g none = 0) :
    iprop(levAts (K (F := F)).L (K (F := F)).lev
        ∗ (chunkPts d L y 0 ∗ chunkPts d L y 1 ∗ chunkPts d L y 2 ∗ chunkPts d L y 3 ∗ chunkPts d L y 4 ∗ chunkPts d L y 5 ∗ chunkPts d L y 6 ∗ chunkPts d L y 7)
        ∗ ((oRowK L).view.loc (V d (cV L) (jV L)) ↦[(oRowK L).view.set]{fullShare} fo)
        ∗ (∃ f, (aV).view.loc (V d (cV L) (jV L)) ↦{fullShare} f) ∗ (∃ f, (bV).view.loc (V d (cV L) (jV L)) ↦{fullShare} f)
        ∗ (∃ f, (rV).view.loc (V d (cV L) (jV L)) ↦{fullShare} f)
        ∗ semVal (cell d L cc0_scratch3) 0 ∗ semVal (cell d L cc0_scratch4) 0 ∗ semVal (cell d L cc0_scoped0) 0
        ∗ owes (V d (cV L) (jV L)) O W)
      ⊢ wp frame (wpE (defs₀ (F := F)) 𝒱₀ (V d (cV L) (jV L)) none) Set.univ
          (cc0__sc_partial_sums_body L yV (Memref.isWhole_whole _) oV (Memref.isWhole_whole _) aV (Memref.isWhole_whole _) bV (Memref.isWhole_whole _)
            rV (Memref.isWhole_whole _) cc0_scratch3 cc0_scratch4 cc0_scoped0)
          fun _ => iprop((chunkPts d L y 0 ∗ chunkPts d L y 1 ∗ chunkPts d L y 2 ∗ chunkPts d L y 3 ∗ chunkPts d L y 4 ∗ chunkPts d L y 5 ∗ chunkPts d L y 6 ∗ chunkPts d L y 7)
        ∗ (∃ g, ((oRowK L).view.loc (V d (cV L) (jV L)) ↦[(oRowK L).view.set]{fullShare} g)
            ∗ ⌜(oRowK L).view.read (Elt F) g = rowSums fun r => (yChunkK L r).view.read (Elt F) y⌝)
        ∗ (∃ f, (aV).view.loc (V d (cV L) (jV L)) ↦{fullShare} f) ∗ (∃ f, (bV).view.loc (V d (cV L) (jV L)) ↦{fullShare} f)
        ∗ (∃ f, (rV).view.loc (V d (cV L) (jV L)) ↦{fullShare} f)
        ∗ semVal (cell d L cc0_scratch3) 0 ∗ semVal (cell d L cc0_scratch4) 0 ∗ semVal (cell d L cc0_scoped0) 0
        ∗ ∃ W', ⌜∀ p ∈ W', p ∈ W ∨ p.2 = none⌝ ∗ owes (V d (cV L) (jV L)) O W') := by
  rw [cc0__sc_partial_sums_body_eq_skeleton]
  unfold cc0__sc_partial_sums_body_skel
  rw [k0_part1_eq_skeleton, k0_part2_eq_skeleton]
  unfold k0_part1_skel k0_part2_skel
  iintro ⟨#Hlv, ⟨Hy0, Hy1, Hy2, Hy3, Hy4, Hy5, Hy6, Hy7⟩, Ho, ⟨%fa, Ha⟩, ⟨%fb, Hb⟩, ⟨%fr, Hr⟩, Hs3, Hs4, Hs5, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  iapply (loop_then_in d L aV (Memref.isWhole_whole _) rfl _ _ _)
  isplitl [Ha]; · iexact Ha
  iintro Ha %a0 %b0 %c0 %d0 %h0
  sl_exec
  iapply (loop_then_in d L bV (Memref.isWhole_whole _) rfl _ _ _)
  isplitl [Hb]; · iexact Hb
  iintro Hb %a1 %b1 %c1 %d1 %h1
  sl_exec
  iapply (loop_then_in d L aV (Memref.isWhole_whole _) rfl _ _ _)
  isplitl [Ha]; · iexact Ha
  iintro Ha %a2 %b2 %c2 %d2 %h2
  sl_exec
  iapply (loop_then_in d L bV (Memref.isWhole_whole _) rfl _ _ _)
  isplitl [Hb]; · iexact Hb
  iintro Hb %a3 %b3 %c3 %d3 %h3
  sl_exec
  iapply (loop_then_in d L aV (Memref.isWhole_whole _) rfl _ _ _)
  isplitl [Ha]; · iexact Ha
  iintro Ha %a4 %b4 %c4 %d4 %h4
  sl_exec
  iapply (loop_then_in d L bV (Memref.isWhole_whole _) rfl _ _ _)
  isplitl [Hb]; · iexact Hb
  iintro Hb %a5 %b5 %c5 %d5 %h5
  sl_exec
  iapply (loop_then d L aV (Memref.isWhole_whole _) rfl _ _)
  isplitl [Ha]; · iexact Ha
  iintro Ha %a6 %b6 %c6 %d6 %h6
  sl_exec
  iapply (loop_then d L bV (Memref.isWhole_whole _) rfl _ _)
  isplitl [Hb]; · iexact Hb
  iintro Hb %a7 %b7 %c7 %d7 %h7
  sl_exec
  sl_step
  isplitl [Hy0 Hy1 Hy2 Hy3 Hy4 Hy5 Hy6 Hy7]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    iexact Hy7
  isplitl [Ho]
  · iexists _
    isplitl [Ho]; · iexact Ho
    ipureintro
    refine (View.read_writes_whole _ _ _).trans ?_
    refine (View.read_writes_full (rV).view _ _ _ _).trans ?_
    simp only [View.read_write_univ] at h0 h1 h2 h3 h4 h5 h6 h7
    refine rowSums_of (s₇ := (a7, b7, c7, d7)) (h0.trans ?_) (h1.trans ?_) (h2.trans ?_) (h3.trans ?_) (h4.trans ?_) (h5.trans ?_) (h6.trans ?_) (h7.trans ?_)
    · exact congrArg (fun f => sumsAt _ f 512) (show tile_run.sl.dma0 d L y = (yChunkK L 0).view.read (Elt F) y from rfl)
    · exact congrArg (fun f => sumsAt _ f 512) (show tile_run.sl.dma0_1 d L y = (yChunkK L 1).view.read (Elt F) y from rfl)
    · exact congrArg (fun f => sumsAt _ f 512) (show tile_run.sl.dma0_2 d L y = (yChunkK L 2).view.read (Elt F) y from rfl)
    · exact congrArg (fun f => sumsAt _ f 512) (show tile_run.sl.dma0_3 d L y = (yChunkK L 3).view.read (Elt F) y from rfl)
    · exact congrArg (fun f => sumsAt _ f 512) (show tile_run.sl.dma0_4 d L y = (yChunkK L 4).view.read (Elt F) y from rfl)
    · exact congrArg (fun f => sumsAt _ f 512) (show tile_run.sl.dma0_5 d L y = (yChunkK L 5).view.read (Elt F) y from rfl)
    · exact congrArg (fun f => sumsAt _ f 512) (show tile_run.sl.dma0_6 d L y = (yChunkK L 6).view.read (Elt F) y from rfl)
    · exact congrArg (fun f => sumsAt _ f 512) (show tile_run.sl.dma0_7 d L y = (yChunkK L 7).view.read (Elt F) y from rfl)
  isplitl [Ha]; · iexists _; iexact Ha
  isplitl [Hb]; · iexists _; iexact Hb
  isplitl [Hr]; · iexists _; iexact Hr
  isplitl [Hs3]; · iexact Hs3
  isplitl [Hs4]; · iexact Hs4
  isplitl [Hs5]; · iexact Hs5
  iexists _; isplitr
  swap; · iexact HO
  ipureintro; intro p hp
  simp only [Finset.mem_insert] at hp
  rcases hp with hp | hp | hp | hp | hp | hp | hp | hp | hp | hp
  iterate 9 exact .inr (hp ▸ rfl)
  exact .inl hp

end Run

end Cert.Proof.LabelSum

end
-- ==== Proof.Rows.lean ====
/-
  How the labels and the partial sums are cut: 256 chunks of the labels, eight to a tile, and 32 rows of sixteen partial
  sums, one to a tile; the tile on SparseCore `c`, subcore `i`, is number `2 i + c`. What the program's windows address is
  these pieces, and the pieces together are the whole arrays.
-/
module

public import proofs.«01_k».proof.Proof.Tile

@[expose] public section

noncomputable section

namespace Cert.Proof.LabelSum

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Numbering -/

/-- The tiles in order: subcore by subcore, the two SparseCores' side by side. -/
def tiles : Fin 2 × Fin 16 ≃ Fin 32 := (Equiv.prodComm _ _).trans (finProdFinEquiv (m := 16) (n := 2))
/-- The tile's number. -/
abbrev wid (c : Fin 2) (i : Fin 16) : Fin 32 := tiles (c, i)
/-- The chunks in order, tile by tile. -/
def chunks : Fin 32 × Fin 8 ≃ Fin 256 := finProdFinEquiv (m := 32) (n := 8)

/-- A tile's number from its SparseCore and subcore; -/
theorem wid_val (c : Fin 2) (i : Fin 16) : (wid c i).val = c.val + 2 * i.val := rfl
/-- a chunk's number from its tile and its place there. -/
theorem chunks_val (w : Fin 32) (r : Fin 8) : (chunks (w, r)).val = r.val + 8 * w.val := rfl

/-- The labels divide into 256 chunks; -/
theorem ydiv : 256 ∣ S8388608.size 0 := ⟨32768, rfl⟩
/-- the partial sums into 32 rows. -/
theorem odiv : 32 ∣ S512.size 0 := ⟨16, rfl⟩
/-- Chunk `j` of the labels: words `32768 j` to `32768 j + 32767`; -/
abbrev chunk (j : Fin 256) : Rect S8388608 := Rect.part (s := S8388608) (a₀ := 0) ydiv j
/-- row `w` of the partial sums: words `16 w` to `16 w + 15`. -/
abbrev row (w : Fin 32) : Rect S512 := Rect.part (s := S512) (a₀ := 0) odiv w

/-! ## The whole arrays are their pieces -/

/-- The labels, whole, are each tile's eight chunks. -/
theorem yPts_chunks (d : Dev nD) (y : Buf (Elt F) (yLoc d)) :
    (yLoc d ↦{fullShare} y : sProp 𝕄)
      = bigSep Finset.univ fun c : Fin 2 => bigSep Finset.univ fun i : Fin 16 => bigSep Finset.univ fun r : Fin 8 =>
          yLoc d ↦[(chunk (chunks (wid c i, r))).set]{fullShare} y := by
  have h : (yLoc d ↦{fullShare} y : sProp 𝕄) = bigSep Finset.univ fun j : Fin 256 => yLoc d ↦[(chunk j).set]{fullShare} y := by
    rw [← pointsTo_biUnion Finset.univ (ℓ := yLoc d) (fun j : Fin 256 => (chunk j).set) fun i _ j _ h => Rect.part_disjoint ydiv h]
    exact congrArg (fun I => pointsTo (yLoc d) I fullShare y) (Rect.biUnion_part ydiv).symm
  rw [h, bigSep_univ_equiv chunks, bigSep_univ_prod, bigSep_univ_equiv tiles, bigSep_univ_prod]

/-- The partial sums, whole, are each tile's row. -/
theorem oPts_rows (d : Dev nD) (f : Buf (Elt F) (oLoc d)) :
    (oLoc d ↦{fullShare} f : sProp 𝕄)
      = bigSep Finset.univ fun c : Fin 2 => bigSep Finset.univ fun i : Fin 16 => oLoc d ↦[(row (wid c i)).set]{fullShare} f := by
  have h : (oLoc d ↦{fullShare} f : sProp 𝕄) = bigSep Finset.univ fun w : Fin 32 => oLoc d ↦[(row w).set]{fullShare} f := by
    rw [← pointsTo_biUnion Finset.univ (ℓ := oLoc d) (fun w : Fin 32 => (row w).set) fun i _ j _ h => Rect.part_disjoint odiv h]
    exact congrArg (fun I => pointsTo (oLoc d) I fullShare f) (Rect.biUnion_part odiv).symm
  rw [h, bigSep_univ_equiv tiles, bigSep_univ_prod]

/-! ## The program's windows are the pieces -/

section Windows

variable (L : grid0.Coords)

/-- The tile the task runs on, by number. -/
abbrev widL : Fin 32 := wid (L 0) (L 1)

/-- The tile's number from its coordinates. -/
theorem widL_val : (widL L).val = (L 0).val + 2 * (L 1).val := rfl

/-- The rectangle the program addresses for chunk `r` of a tile is that chunk; -/
theorem yChunk_rect (r : Fin 8) :
    Rect.unit (s := S8388608) (k0_off1 L (BitVec.ofNat 32 (32768 * r.val))) S32768.size (k0_off1_inb L r) = chunk (chunks (widL L, r)) := by
  unfold chunk Rect.part Rect.block
  congr 1 <;> funext a
  · rw [k0_off1_eq]
    match a with
    | 0 =>
      simp only [Shape.partIx, Shape.partSize, chunks_val, widL_val, if_pos, Matrix.cons_val_zero]
      show _ = (r.val + 8 * ((L 0).val + 2 * (L 1).val)) * (8388608 / 256)
      omega
  · match a with
    | 0 => rfl

/-- the one it addresses for the row is that row. -/
theorem oRow_rect : Rect.unit (s := S512) (k0_off10 L) S16.size (k0_off10_inb L) = row (widL L) := by
  unfold row Rect.part Rect.block
  congr 1 <;> funext a
  · rw [k0_off10_eq]
    match a with
    | 0 =>
      simp only [Shape.partIx, Shape.partSize, widL_val, if_pos, Matrix.cons_val_zero]
      show _ = ((L 0).val + 2 * (L 1).val) * (512 / 32)
      omega
  · match a with
    | 0 => rfl

/-- The labels under the program's view of chunk `r` are the chunk's; -/
theorem set_yChunkK (r : Fin 8) : (yChunkK L r).view.set = (chunk (chunks (widL L, r))).set := by
  rw [← yChunk_rect]
  exact (View.set_slice _ _).trans Finset.map_refl
/-- the partial sums under its view of the row are the row's. -/
theorem set_oRowK : (oRowK L).view.set = (row (widL L)).set := by
  rw [← oRow_rect]
  exact (View.set_slice _ _).trans Finset.map_refl

/-- Where word `z` of the tile's chunk `r` lies among the labels; -/
theorem yChunkK_emb (r : Fin 8) (z : S32768.Idx) : ((yChunkK L r).view.emb z 0).val = 32768 * (r.val + 8 * (widL L).val) + (z 0).val := by
  show (k0_off1 L (BitVec.ofNat 32 (32768 * r.val))) 0 + 1 * (z 0).val = _
  rw [k0_off1_eq, widL_val]
  show 524288 * (L 1).val + 262144 * (L 0).val + 32768 * r.val + 1 * (z 0).val = _
  omega
/-- where lane `x` of the tile's row lies among the partial sums. -/
theorem oRowK_emb (x : S16.Idx) : ((oRowK L).view.emb x 0).val = 16 * (widL L).val + (x 0).val := by
  show (k0_off10 L) 0 + 1 * (x 0).val = _
  rw [k0_off10_eq, widL_val]
  show 32 * (L 1).val + 16 * (L 0).val + 1 * (x 0).val = _
  omega

end Windows

/-! ## The partial sums as one array -/

/-- Word `z` of chunk `r` of tile `w`'s labels. -/
def chunkOf (y : S8388608.Idx → BitVec 32) (w : ℕ) (r : Fin 8) : S32768.Idx → BitVec 32 :=
  fun z => word y (32768 * (r.val + 8 * w) + (z 0).val)

/-- The 512 partial sums of labels `y`: sixteen lanes to a tile. -/
def partials (y : S8388608.Idx → BitVec 32) : S512.Idx → BitVec 32 :=
  fun x => rowSums (chunkOf y ((x 0).val / 16)) fun a => match a with | 0 => ⟨(x 0).val % 16, Nat.mod_lt _ (by decide)⟩

/-- The tile's chunk as its window reads it. -/
theorem read_yChunkK (d : Dev nD) (L : grid0.Coords) (y : Buf (Elt F) (yLoc d)) (r : Fin 8) :
    (yChunkK L r).view.read (Elt F) y = chunkOf y (widL L).val r := by
  funext z
  refine ((View.read_apply _ _).trans (cast_eq _ _)).trans ?_
  unfold chunkOf
  rw [← yChunkK_emb]
  exact (word_idx (n := 8388608) _ _).symm

/-- A row that reads its chunks' sums holds the partial sums there. -/
theorem row_holds (d : Dev nD) (L : grid0.Coords) (y : Buf (Elt F) (yLoc d)) (g : Buf (Elt F) (oLoc d))
    (h : (oRowK L).view.read (Elt F) g = rowSums fun r => (yChunkK L r).view.read (Elt F) y) :
    ((oRowK L).view.loc (V d (cV L) (jV L)) ↦[(oRowK L).view.set]{fullShare} g : sProp 𝕄)
      = oLoc d ↦[(row (widL L)).set]{fullShare} (partials y : Buf (Elt F) (oLoc d)) := by
  rw [← set_oRowK]
  refine pointsTo_congr fun i hi => ?_
  obtain ⟨x, -, rfl⟩ := Finset.mem_map.mp hi
  have hg : (oRowK L).view.read (Elt F) g x = g ((oRowK L).view.emb x) := (View.read_apply _ _).trans (cast_eq _ _)
  refine hg.symm.trans ?_
  rw [h]
  unfold partials
  have hx : (x 0).val < 16 := (x 0).isLt
  have e := oRowK_emb L x
  have e₁ : ((oRowK L).view.emb x 0).val / 16 = (widL L).val := by omega
  have e₂ : ((oRowK L).view.emb x 0).val % 16 = (x 0).val := by omega
  rw [e₁]
  refine congr (congrArg rowSums (funext fun r => read_yChunkK d L y r)) (funext fun a => ?_)
  match a with
  | 0 => exact Fin.ext e₂.symm

end Cert.Proof.LabelSum

end
-- ==== Proof.Total.lean ====
/-
  The 512 partial sums add up to the sum of all the labels, word arithmetic throughout: a lane's sum taken apart into its
  eight chunks, four running sums and 512 trips, and these put together again in the labels' own order.
-/
module

public import proofs.«01_k».proof.Proof.Rows
public import Idealize.ShloMosaic.Lib.ValueIdxRank1

@[expose] public section

noncomputable section

namespace Cert.Proof.LabelSum

open Cert.KernelIdeal Cert.KernelIdeal.Gen
open Idealize.ShloMosaic Idealize.ShloMosaic.ValueIdx
open Finset (range)

/-- All the labels' sum, as a word. -/
def total (y : S8388608.Idx → BitVec 32) : BitVec 32 := ∑ x, y x

/-- A sum over `a * b` numbers is taken `b` at a time. -/
theorem sum_range_blocks (f : ℕ → BitVec 32) (a b : ℕ) : ∑ k ∈ range (a * b), f k = ∑ i ∈ range a, ∑ j ∈ range b, f (b * i + j) := by
  induction a with
  | zero => simp
  | succ a ih => rw [Nat.succ_mul, Finset.sum_range_add, ih, Finset.sum_range_succ, Nat.mul_comm a b]

/-- A sum over a list's indices is the sum of its words. -/
theorem sum_idx {n : ℕ} (f : (⟨1, ![n]⟩ : Shape).Idx → BitVec 32) : ∑ x, f x = ∑ k ∈ range n, word f k := by
  rw [Finset.sum_range, ← Equiv.sum_comp (idxEquiv1 (n := n)).symm f]
  refine Finset.sum_congr rfl fun k _ => ?_
  rw [← word_idx f]
  rfl

/-- One lane of a tile's row: over its chunks, the trips and the four running sums. -/
theorem rowSums_apply (c : Fin 8 → S32768.Idx → BitVec 32) (x : S16.Idx) :
    rowSums c x = ∑ r : Fin 8, ∑ t ∈ range 512, ∑ j ∈ range 4, word (c r) (64 * t + 16 * j + (x 0).val) := by
  have hs (r : Fin 8) : ∑ t ∈ range 512, ∑ j ∈ range 4, word (c r) (64 * t + 16 * j + (x 0).val)
      = lanes (c r) 512 0 x + lanes (c r) 512 1 x + lanes (c r) 512 2 x + lanes (c r) 512 3 x := by
    simp only [lanes, ← Finset.sum_add_distrib]
    refine Finset.sum_congr rfl fun t _ => ?_
    simp only [Finset.sum_range_succ, Finset.sum_range_zero, zero_add]
  simp only [hs, Fin.sum_univ_eight]
  have hc (v : IVec S16 32) : shapeCast S16 v shapeCasts_S16_S16 = v := by
    funext z; unfold shapeCast; simp
  simp only [rowSums, sumsAt, k0_pay9, k0_pay10, k0_pay11, k0_pay12, k0_pay13, hc]
  simp only [addi, broadcast, IntOp.addi, show (0#32 : BitVec 32) = 0 from rfl]
  ring

/-- Word `k` of a tile's chunk among the labels. -/
theorem word_chunkOf (y : S8388608.Idx → BitVec 32) (w : ℕ) (r : Fin 8) {k : ℕ} (hk : k < 32768) :
    word (chunkOf y w r) k = word y (32768 * (r.val + 8 * w) + k) := by
  unfold word
  rw [dif_pos hk]
  rfl

/-- Lane `l` of tile `w`'s row among the 512 partial sums. -/
theorem word_partials (y : S8388608.Idx → BitVec 32) {w l : ℕ} (hw : w < 32) (hl : l < 16) :
    word (partials y) (16 * w + l)
      = ∑ r ∈ range 8, ∑ t ∈ range 512, ∑ j ∈ range 4, word y (262144 * w + (32768 * r + (64 * t + (16 * j + l)))) := by
  have h : 16 * w + l < 512 := by omega
  rw [Finset.sum_range]
  unfold word
  rw [dif_pos h]
  show rowSums (chunkOf y ((16 * w + l) / 16)) _ = _
  rw [rowSums_apply]
  refine Finset.sum_congr rfl fun r _ => Finset.sum_congr rfl fun t ht => Finset.sum_congr rfl fun j hj => ?_
  show word (chunkOf y ((16 * w + l) / 16) r) (64 * t + 16 * j + (16 * w + l) % 16) = word y _
  rw [Finset.mem_range] at ht hj
  rw [word_chunkOf y _ r (by omega)]
  congr 1
  omega

/-- The partial sums add up to the labels' sum. -/
theorem sum_partials (y : S8388608.Idx → BitVec 32) : ∑ x, partials y x = total y := by
  rw [total, sum_idx, sum_idx, sum_range_blocks (word (partials y)) 32 16, sum_range_blocks (word y) 32 262144]
  refine Finset.sum_congr rfl fun w hw => ?_
  rw [Finset.mem_range] at hw
  have hin (f : ℕ → BitVec 32) : ∑ k ∈ range 262144, f k = ∑ r ∈ range 8, ∑ t ∈ range 512, ∑ j ∈ range 4, ∑ l ∈ range 16, f (32768 * r + (64 * t + (16 * j + l))) := by
    rw [show (262144 : ℕ) = 8 * 32768 from rfl, sum_range_blocks]
    refine Finset.sum_congr rfl fun r _ => ?_
    rw [show (32768 : ℕ) = 512 * 64 from rfl, sum_range_blocks]
    refine Finset.sum_congr rfl fun t _ => ?_
    rw [show (64 : ℕ) = 4 * 16 from rfl, sum_range_blocks]
  rw [hin, Finset.sum_congr rfl fun l hl => word_partials y hw (Finset.mem_range.mp hl), Finset.sum_comm]
  refine Finset.sum_congr rfl fun r _ => ?_
  rw [Finset.sum_comm]
  refine Finset.sum_congr rfl fun t _ => ?_
  rw [Finset.sum_comm]

end Cert.Proof.LabelSum

end
-- ==== Proof.Labels.lean ====
/-
  Labels that are all 0 or 1: what the precondition says, their sum as a number, and the reference's scatter of ones as that sum
  at class 1 and the rest at class 0.
-/
module

public import proofs.«01_k».proof.Proof.Total
public import proofs.«01_k».proof.Proof.Gen.ReferenceIdeal
public import proofs.«01_k».proof.Proof.Gen.Pre_labels_in_range
public import Idealize.ShloMosaic.Lib.ReduceAll
public import Idealize.ShloMosaic.Lib.WordSum
public import Idealize.ShloMosaic.Lib.Routing.Ops
public import Idealize.ShloMosaic.Lib.Routing.OpsPair

@[expose] public section

noncomputable section

namespace Cert.Proof.LabelSum

open Idealize.ShloMosaic Idealize.ShloMosaic.ValueIdx
open Idealize.ShloMosaic.Routing (shape1 shape2)

/-- The shape of the labels. -/
abbrev Many : Shape := ⟨1, ![8388608]⟩

/-- Every label is one of the two classes. -/
def TwoClasses (y : Many.Idx → BitVec 32) : Prop := ∀ j, y j = 0#32 ∨ y j = 1#32

/-- The precondition's word is 1 only if every label is one of the two classes. -/
theorem twoClasses_of_pre {F : FTy → Type} [FloatOps F] (y : IVec Many 32) (o : FVec F ⟨1, ![2]⟩ .f32)
    (h : Cert.Pre_labels_in_range.fn y o = fun _ => 1#1) : TwoClasses y := fun j => by
  have hs : Subsingleton (Cert.Pre_labels_in_range.S_).Idx := ⟨fun a b => funext fun i => i.elim0⟩
  have e := Host.reduce_andi_all _ _ _ _ ix0 (congrFun h ix0) j
  have low (b : BitVec 32) (hb : IntOp.andi (IntOp.cmpi .sge b 0#32) (IntOp.cmpi .slt b 2#32) = 1#1) : b = 0#32 ∨ b = 1#32 := by
    have key (p q : Bool) (hpq : IntOp.andi (BitVec.ofBool p) (BitVec.ofBool q) = 1#1) : p = true ∧ q = true := by revert p q; decide
    obtain ⟨h0, h2⟩ := key ((0#32).sle b) (b.slt 2#32) hb
    rw [BitVec.sle_eq_decide, decide_eq_true_eq] at h0
    rw [BitVec.slt_eq_decide, decide_eq_true_eq] at h2
    have z0 : (0#32 : BitVec 32).toInt = 0 := rfl
    have z2 : (2#32 : BitVec 32).toInt = 2 := rfl
    rw [z0] at h0
    rw [z2] at h2
    rcases (by omega : b.toInt = 0 ∨ b.toInt = 1) with e | e
    · exact .inl (BitVec.eq_of_toInt_eq e)
    · exact .inr (BitVec.eq_of_toInt_eq e)
  exact low (y j) e

/-! ## The sum as a number -/

/-- There are 8388608 labels. -/
theorem card_many : Fintype.card Many.Idx = 8388608 := by
  rw [Fintype.card_congr (idxEquiv1 (n := 8388608)), Fintype.card_fin]

/-- The labels' sum counts the labels of class 1: it is at most their number. -/
theorem total_le {y : Many.Idx → BitVec 32} (h : TwoClasses y) : (total y).toNat ≤ 8388608 := by
  have hb : ∑ j, (y j).toNat ≤ 8388608 := by
    refine (Finset.sum_le_card_nsmul _ _ 1 fun j _ => ?_).trans ?_
    · rcases h j with e | e <;> rw [e] <;> decide
    · rw [Finset.card_univ, card_many]; decide
  rw [total, WordSum.toNat_sum _ _ (lt_of_le_of_lt hb (by decide))]
  exact hb

/-- The sum read as a signed integer. -/
theorem toInt_total {y : Many.Idx → BitVec 32} (h : TwoClasses y) : (total y).toInt = ((total y).toNat : ℤ) :=
  BitVec.toInt_eq_toNat_of_lt (by have := total_le h; omega)

/-- The number of labels less their sum, read as a signed integer. -/
theorem toInt_rest {y : Many.Idx → BitVec 32} (h : TwoClasses y) : (8388608#32 - total y).toInt = 8388608 - ((total y).toNat : ℤ) := by
  have := total_le h
  have e : (8388608#32 - total y).toNat = 8388608 - (total y).toNat := by
    rw [BitVec.toNat_sub_of_le (by rw [BitVec.le_def]; exact this)]
    rfl
  rw [BitVec.toInt_eq_toNat_of_lt (by rw [e]; omega), e]
  omega

/-! ## The scatter -/

/-- A fold that adds the words whose number passes a test is the first word plus their sum. -/
theorem foldl_add_if {ι : Type} (p : ι → Prop) [DecidablePred p] (g : ι → BitVec 32) (l : List ι) (x : BitVec 32) :
    l.foldl (fun a n => if p n then IntOp.addi a (g n) else a) x = x + (l.map fun n => if p n then g n else 0).sum := by
  induction l generalizing x with
  | nil => simp
  | cons n l ih =>
    rw [List.foldl_cons, ih, List.map_cons, List.sum_cons, ← add_assoc]
    by_cases hn : p n
    · rw [if_pos hn, if_pos hn]; rfl
    · rw [if_neg hn, if_neg hn, add_zero]

/-- A scatter of `N` words into a vector of `K` by addition, one index word each: entry `e` grows by the words whose index, read
    signed, is `e`. -/
theorem scatter_addi {K N : ℕ} (d : ScatterDims (shape1 K) (shape2 N 1) (shape1 N)) (hw : d.insertedWindowDims = [0]) (hs : d.scatterDimsToOperandDims = [0])
    (hv : d.indexVectorDim = 1) (x : IVec (shape1 K) 32) (idx : IVec (shape2 N 1) 32) (u : IVec (shape1 N) 32) (e : Fin K) :
    Host.scatter d IntOp.addi x idx u (ix1 e) = x (ix1 e) + ∑ j : (shape1 N).Idx, if (idx (ix2 (j 0) (0 : Fin 1))).toInt = (e.val : ℤ) then u j else 0 := by
  have hm : (0 : Fin 1) ∈ d.scatterDimsToOperandDims := by rw [hs]; simp
  have lands (j : (shape1 N).Idx) : d.resultIdx? j idx = some (ix1 e) ↔ (idx (ix2 (j 0) (0 : Fin 1))).toInt = (e.val : ℤ) := by
    rw [Routing.resultIdx?_ix1]
    have win : d.window j 0 = 0 := by
      unfold ScatterDims.window
      exact dif_neg fun h => (of_decide_eq_true (List.mem_filter.1 h).2) (by rw [hw]; simp)
    have start : d.start j idx 0 = (idx (ix2 (j 0) (0 : Fin 1))).toInt := by
      unfold ScatterDims.start
      rw [dif_pos hm]
      congr 2
      funext b
      refine Fin.ext ?_
      match b with
      | ⟨0, _⟩ =>
        unfold ScatterDims.siIdx
        rw [dif_neg (by rw [hv]; exact Nat.zero_ne_one)]
        exact congrArg (fun a => (j a).val) (Subsingleton.elim (α := Fin 1) _ _)
      | ⟨1, _⟩ =>
        unfold ScatterDims.siIdx
        rw [dif_pos hv.symm]
        show List.idxOf (0 : Fin 1) d.scatterDimsToOperandDims = 0
        rw [hs]; simp
    rw [win, start]
    simp
  rw [Routing.scatter_at, foldl_add_if, ← Fin.sum_univ_def, Equiv.sum_comp (shape1 N).rowMajor.symm fun j => if d.resultIdx? j idx = some (ix1 e) then u j else 0]
  simp only [lands]

/-- The reference's index words: the labels clipped from below at 0, a negative one counted from the end. -/
def indexWords (y : IVec Many 32) : IVec Many 32 :=
  select (cmpi .slt (maxsi (broadcastInDim Cert.ReferenceIdeal.S8388608 ![] Cert.ReferenceIdeal.Facts₀.bcast_S_S8388608 (id (constantI Cert.ReferenceIdeal.S_ 32 0#32))) y) (broadcastInDim Cert.ReferenceIdeal.S8388608 ![] Cert.ReferenceIdeal.Facts₀.bcast_S_S8388608 (constantI Cert.ReferenceIdeal.S_ 32 0#32)))
    (addi (maxsi (broadcastInDim Cert.ReferenceIdeal.S8388608 ![] Cert.ReferenceIdeal.Facts₀.bcast_S_S8388608 (id (constantI Cert.ReferenceIdeal.S_ 32 0#32))) y) (broadcastInDim Cert.ReferenceIdeal.S8388608 ![] Cert.ReferenceIdeal.Facts₀.bcast_S_S8388608 (constantI Cert.ReferenceIdeal.S_ 32 2#32)))
    (maxsi (broadcastInDim Cert.ReferenceIdeal.S8388608 ![] Cert.ReferenceIdeal.Facts₀.bcast_S_S8388608 (id (constantI Cert.ReferenceIdeal.S_ 32 0#32))) y)

/-- Labels of the two classes index as themselves. -/
theorem indexWords_apply {y : Many.Idx → BitVec 32} (h : TwoClasses y) (j : Many.Idx) : indexWords y j = y j := by
  have key (b : BitVec 32) (hb : b = 0#32 ∨ b = 1#32) :
      Scalar.select (IntOp.cmpi .slt (IntOp.maxsi 0#32 b) 0#32) (IntOp.addi (IntOp.maxsi 0#32 b) 2#32) (IntOp.maxsi 0#32 b) = b := by
    rcases hb with rfl | rfl <;> decide
  exact key (y j) (h j)

/-- The reference's histogram: ones scattered by addition into two zeros at the index words. -/
def histogram (y : IVec Many 32) : IVec (⟨1, ![2]⟩ : Shape) 32 :=
  Host.scatter Cert.ReferenceIdeal.scatter_S2_S8388608x1_S8388608_n_0_0_1 IntOp.addi (broadcastInDim Cert.ReferenceIdeal.S2 ![] Cert.ReferenceIdeal.Facts₀.bcast_S_S2 (constantI Cert.ReferenceIdeal.S_ 32 0#32))
    (broadcastInDim Cert.ReferenceIdeal.S8388608x1 ![0] Cert.ReferenceIdeal.Facts₀.bcast_S8388608_S8388608x1_0 (indexWords y))
    (broadcastInDim Cert.ReferenceIdeal.S8388608 ![] Cert.ReferenceIdeal.Facts₀.bcast_S_S8388608 (constantI Cert.ReferenceIdeal.S_ 32 1#32))

/-- Entry `e` of the histogram: one for each label whose word, read signed, is `e`. -/
theorem histogram_apply {y : Many.Idx → BitVec 32} (h : TwoClasses y) (e : Fin 2) :
    histogram y (ix1 e) = ∑ j : Many.Idx, if (y j).toInt = (e.val : ℤ) then 1 else 0 := by
  rw [histogram, scatter_addi _ rfl rfl rfl]
  refine (zero_add _).trans (Finset.sum_congr rfl fun j _ => ?_)
  have col := (Routing.bcCol Cert.ReferenceIdeal.Facts₀.bcast_S8388608_S8388608x1_0 (indexWords y) (j 0)).trans
    ((congrArg (indexWords y) (eq_ix1 j).symm).trans (indexWords_apply h j))
  exact congrArg (fun b : BitVec 32 => if b.toInt = (e.val : ℤ) then (1 : BitVec 32) else 0) col

/-- Class 1 is counted as often as the labels' sum says. -/
theorem histogram_one {y : Many.Idx → BitVec 32} (h : TwoClasses y) : histogram y (ix1 1) = total y := by
  rw [histogram_apply h, total]
  refine Finset.sum_congr rfl fun j _ => ?_
  rcases h j with e | e <;> rw [e] <;> decide

/-- Class 0 is counted for all the other labels. -/
theorem histogram_zero {y : Many.Idx → BitVec 32} (h : TwoClasses y) : histogram y (ix1 0) = 8388608#32 - total y := by
  have ones : ∑ _j : Many.Idx, (1 : BitVec 32) = 8388608#32 := by
    rw [Finset.sum_const, Finset.card_univ, card_many, nsmul_one]
    rfl
  rw [histogram_apply h, total, ← ones, ← Finset.sum_sub_distrib]
  refine Finset.sum_congr rfl fun j _ => ?_
  rcases h j with e | e <;> rw [e] <;> decide

end Cert.Proof.LabelSum

end
-- ==== Proof.Launch.lean ====
/-
  The SparseCore call: what its handshakes carry — each tile its eight chunks of the labels and its row of the partial
  sums, the row coming back holding the sums — and that each tile's task does its part.
-/
module

public import proofs.«01_k».proof.Proof.Rows

@[expose] public section

noncomputable section

namespace Cert.Proof.LabelSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_arg0_scv : Memref Cert.KernelIdeal.sig Kind.scVector Space.hbm Cert.KernelIdeal.S8388608 EltTy.i32)
local notation "oV" => (Memref.whole Cert.KernelIdeal.main_v0_scv : Memref Cert.KernelIdeal.sig Kind.scVector Space.hbm Cert.KernelIdeal.S512 EltTy.i32)
local notation "aV" => (Memref.whole Cert.KernelIdeal.cc0_scratch0 : Memref Cert.KernelIdeal.sig Kind.scVector Space.vmem Cert.KernelIdeal.S32768 EltTy.i32)
local notation "bV" => (Memref.whole Cert.KernelIdeal.cc0_scratch1 : Memref Cert.KernelIdeal.sig Kind.scVector Space.vmem Cert.KernelIdeal.S32768 EltTy.i32)
local notation "rV" => (Memref.whole Cert.KernelIdeal.cc0_scratch2 : Memref Cert.KernelIdeal.sig Kind.scVector Space.vmem Cert.KernelIdeal.S16 EltTy.i32)

variable (m : (ℓ : Loc nD τ sig) → Buf (Elt F) ℓ)

/-! ## What the handshakes carry -/

/-- The partial sums of the labels in the launch memory. -/
abbrev sums (d : Dev nD) : Buf (Elt F) (oLoc d) := partials (m (yLoc d))

/-- Tile `(c, i)`'s chunks of the labels; -/
abbrev yTask (d : Dev nD) (c : Fin 2) (i : Fin 16) : sProp 𝕄 :=
  bigSep Finset.univ fun r : Fin 8 => yLoc d ↦[(chunk (chunks (wid c i, r))).set]{fullShare} m (yLoc d)
/-- its row of the partial sums. -/
abbrev oTask (d : Dev nD) (f : Buf (Elt F) (oLoc d)) (c : Fin 2) (i : Fin 16) : sProp 𝕄 :=
  oLoc d ↦[(row (wid c i)).set]{fullShare} f

/-- Each task takes its chunks and its row, and brings them back with the row holding its sums; each SparseCore takes and
    brings back its sixteen tasks'. -/
def P : (K (F := F)).Pay (nD := nD) (Val := Elt F) (Name := ℕ) (U := UU) where
  st := fun q d c => match q with
    | 0 => bigSep Finset.univ fun i : Fin 16 => iprop(yTask m d (Fin.cast nCore_zero c) i ∗ oTask d (m (oLoc d)) (Fin.cast nCore_zero c) i)
  dn := fun q d c => match q with
    | 0 => bigSep Finset.univ fun i : Fin 16 => iprop(yTask m d (Fin.cast nCore_zero c) i ∗ oTask d (sums m d) (Fin.cast nCore_zero c) i)
  go := fun q d c i => match q with
    | 0 => iprop(yTask m d (Fin.cast nCore_zero c) (Fin.cast nSub_zero i) ∗ oTask d (m (oLoc d)) (Fin.cast nCore_zero c) (Fin.cast nSub_zero i))
  td := fun q d c i => match q with
    | 0 => iprop(yTask m d (Fin.cast nCore_zero c) (Fin.cast nSub_zero i) ∗ oTask d (sums m d) (Fin.cast nCore_zero c) (Fin.cast nSub_zero i))
  x := fun _ _ => iprop(emp)

/-- What the handshakes carry can be stored in them. -/
instance P_storable : (P (F := F) m).IsStorable where
  st q d c := match q with
    | 0 => (inferInstance : BI.Storable (upEmb : UEmb _ 𝕄)
      (bigSep Finset.univ fun i : Fin 16 => iprop(yTask m d (Fin.cast nCore_zero c) i ∗ oTask d (m (oLoc d)) (Fin.cast nCore_zero c) i)))
  dn q d c := match q with
    | 0 => (inferInstance : BI.Storable (upEmb : UEmb _ 𝕄)
      (bigSep Finset.univ fun i : Fin 16 => iprop(yTask m d (Fin.cast nCore_zero c) i ∗ oTask d (sums m d) (Fin.cast nCore_zero c) i)))
  go q d c i := match q with
    | 0 => (inferInstance : BI.Storable (upEmb : UEmb _ 𝕄)
      iprop(yTask m d (Fin.cast nCore_zero c) (Fin.cast nSub_zero i) ∗ oTask d (m (oLoc d)) (Fin.cast nCore_zero c) (Fin.cast nSub_zero i)))
  td q d c i := match q with
    | 0 => (inferInstance : BI.Storable (upEmb : UEmb _ 𝕄)
      iprop(yTask m d (Fin.cast nCore_zero c) (Fin.cast nSub_zero i) ∗ oTask d (sums m d) (Fin.cast nCore_zero c) (Fin.cast nSub_zero i)))

/-! ## A SparseCore's operands are its tasks' -/

/-- A product over a SparseCore's tasks, by the tasks' plain numbers; -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- a product over the SparseCores, by theirs. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's chunks and rows are its sixteen tasks', before the call and after it. -/
theorem vecSplit : (K (F := F)).VecSplit' (P m) 0 := by
  intro d c
  show (bigSep Finset.univ fun i : Fin 16 => iprop(yTask m d (Fin.cast nCore_zero c) i ∗ oTask d (m (oLoc d)) (Fin.cast nCore_zero c) i))
    ⊢ |={Set.univ}=> iprop(
      (bigSep Finset.univ fun i : Fin ((K (F := F)).nSub 0) => iprop(yTask m d (Fin.cast nCore_zero c) (Fin.cast nSub_zero i)
        ∗ oTask d (m (oLoc d)) (Fin.cast nCore_zero c) (Fin.cast nSub_zero i)))
      ∗ ((bigSep Finset.univ fun i : Fin ((K (F := F)).nSub 0) => iprop(yTask m d (Fin.cast nCore_zero c) (Fin.cast nSub_zero i)
          ∗ oTask d (sums m d) (Fin.cast nCore_zero c) (Fin.cast nSub_zero i)))
        -∗ bigSep Finset.univ fun i : Fin 16 => iprop(yTask m d (Fin.cast nCore_zero c) i ∗ oTask d (sums m d) (Fin.cast nCore_zero c) i)))
  rw [bigSep_tasks (F := F) (fun i => iprop(yTask m d (Fin.cast nCore_zero c) i ∗ oTask d (m (oLoc d)) (Fin.cast nCore_zero c) i)),
    bigSep_tasks (F := F) (fun i => iprop(yTask m d (Fin.cast nCore_zero c) i ∗ oTask d (sums m d) (Fin.cast nCore_zero c) i))]
  iintro H; imodintro
  isplitl [H]; · iexact H
  iintro H; iexact H

/-- The call's operands: the labels and the partial sums' array, whole; -/
theorem st_eq (d : Dev nD) :
    (bigSep Finset.univ fun c : Fin ((K (F := F)).nCore 0) => (P m).st 0 d c) = iprop((yLoc d ↦{fullShare} m (yLoc d)) ∗ oLoc d ↦{fullShare} m (oLoc d)) := by
  refine (bigSep_cores (F := F) fun c => bigSep Finset.univ fun i : Fin 16 => iprop(yTask m d c i ∗ oTask d (m (oLoc d)) c i)).trans ?_
  rw [yPts_chunks, oPts_rows, ← bigSep_sep']
  exact bigSep_congr fun _ _ => bigSep_sep' _ _ _
/-- its results: the labels as they were, the array holding the sums. -/
theorem dn_eq (d : Dev nD) :
    (bigSep Finset.univ fun c : Fin ((K (F := F)).nCore 0) => (P m).dn 0 d c) = iprop((yLoc d ↦{fullShare} m (yLoc d)) ∗ oLoc d ↦{fullShare} sums m d) := by
  refine (bigSep_cores (F := F) fun c => bigSep Finset.univ fun i : Fin 16 => iprop(yTask m d c i ∗ oTask d (sums m d) c i)).trans ?_
  rw [yPts_chunks, oPts_rows, ← bigSep_sep']
  exact bigSep_congr fun _ _ => bigSep_sep' _ _ _

/-! ## Each task does its part -/

section Tile

variable (d : Dev nD) (L : grid0.Coords)

/-- The tile's chunks, as its windows address them. -/
theorem yTask_eq (y : Buf (Elt F) (yLoc d)) :
    (bigSep Finset.univ fun r : Fin 8 => (yLoc d ↦[(chunk (chunks (widL L, r))).set]{fullShare} y : sProp 𝕄))
      = iprop(chunkPts d L y 0 ∗ chunkPts d L y 1 ∗ chunkPts d L y 2 ∗ chunkPts d L y 3 ∗ chunkPts d L y 4 ∗ chunkPts d L y 5 ∗ chunkPts d L y 6 ∗ chunkPts d L y 7) := by
  have h : ∀ r : Fin 8, (yLoc d ↦[(chunk (chunks (widL L, r))).set]{fullShare} y : sProp 𝕄) = chunkPts d L y r := fun r => by
    rw [← set_yChunkK]
  rw [bigSep_congr fun r _ => h r, bigSep_univ_eq_bigSepL [0, 1, 2, 3, 4, 5, 6, 7] (by decide) (by decide)]
  rfl

variable [FloatOps F]

/-- The task from what the launch hands it to what it hands back. -/
theorem tile_body (O : CellTallies nD τ sig (HIx 1)) (W : Waits sig (HIx 1)) (hO : ∀ g, O g none = 0) :
    iprop(levAts (K (F := F)).L (K (F := F)).lev ∗ emp
        ∗ (yTask m d (L 0) (L 1) ∗ oTask d (m (oLoc d)) (L 0) (L 1))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_partial_sums_body L yV (Memref.isWhole_whole _) oV (Memref.isWhole_whole _) aV (Memref.isWhole_whole _) bV (Memref.isWhole_whole _)
            rV (Memref.isWhole_whole _) cc0_scratch3 cc0_scratch4 cc0_scoped0)
          fun _ => iprop((yTask m d (L 0) (L 1) ∗ oTask d (sums m d) (L 0) (L 1))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V]
  have hO' : (oLoc d ↦[(row (widL L)).set]{fullShare} m (oLoc d) : sProp 𝕄)
      = ((oRowK L).view.loc (V d (cV L) (jV L)) ↦[(oRowK L).view.set]{fullShare} m (oLoc d)) := by rw [← set_oRowK]
  iintro ⟨Hlv, -, ⟨Hy0, Ho0⟩, ⟨Ha, Hb, Hr, HB⟩, ⟨Hs3, Hs4, Hs5, HS⟩, HO⟩
  ihave Hy := (Entails.of_eq (yTask_eq d L (m (yLoc d)))) $$ Hy0
  ihave Ho := (Entails.of_eq hO') $$ Ho0
  ihave Hwp := (tile_run d L (m (yLoc d)) (m (oLoc d)) O W hO) $$ [Hlv Hy Ho Ha Hb Hr Hs3 Hs4 Hs5 HO]
  · isplitl [Hlv]; · iexact Hlv
    isplitl [Hy]; · iexact Hy
    isplitl [Ho]; · iexact Ho
    isplitl [Ha]; · iexact Ha
    isplitl [Hb]; · iexact Hb
    isplitl [Hr]; · iexact Hr
    isplitl [Hs3]; · iexact Hs3
    isplitl [Hs4]; · iexact Hs4
    isplitl [Hs5]; · iexact Hs5
    iexact HO
  iapply (wp_wand_r frame _ Set.univ)
  isplitl [Hwp]; · iexact Hwp
  iintro %_ ⟨Hy, ⟨%g, Ho, %hg⟩, Ha, Hb, Hr, Hs3, Hs4, Hs5, HO⟩
  ihave Ho' := (Entails.of_eq (row_holds d L (m (yLoc d)) g hg)) $$ Ho
  ihave Hy' := (Entails.of_eq (yTask_eq d L (m (yLoc d))).symm) $$ Hy
  isplitl [Hy' Ho']
  · isplitl [Hy']; · iexact Hy'
    iexact Ho'
  isplitl [Ha Hb Hr HB]
  · isplitl [Ha]; · iexact Ha
    isplitl [Hb]; · iexact Hb
    isplitl [Hr]; · iexact Hr
    iexact HB
  isplitl [Hs3 Hs4 Hs5 HS]
  · isplitl [Hs3]; · iexact Hs3
    isplitl [Hs4]; · iexact Hs4
    isplitl [Hs5]; · iexact Hs5
    iexact HS
  iexact HO

/-- The grid's coordinates of a task, from its SparseCore and its subcore. -/
def coordsV (c : Fin (grid0.bound 0)) (s : Fin (grid0.bound 1)) : grid0.Coords :=
  fun | 0 => c | 1 => s | ⟨_ + 2, h⟩ => absurd h (Nat.not_lt.2 (Nat.le_add_left _ _))

/-- The kernel's call on a subcore is the task at the subcore's coordinates. -/
theorem defs₀_vector (c : Fin τ.nSC) (s : Fin τ.nSub) :
    defs₀ (F := F) (.scVector c s) 0 ()
      = SparseCore.onTile hcore0 hsub0 (fun c s => cc0__sc_partial_sums_body (coordsV c s)
          yV (Memref.isWhole_whole _) oV (Memref.isWhole_whole _) aV (Memref.isWhole_whole _) bV (Memref.isWhole_whole _)
          rV (Memref.isWhole_whole _) cc0_scratch3 cc0_scratch4 cc0_scoped0) ⟨⟩ c s := rfl

omit [FloatOps F] in
/-- A wait recorded at no level is a wait at no level or at the call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets its obligation to the call. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) O W hO).trans (wp_mono frame _ _ fun _ => obl_post)

end Tile

end Cert.Proof.LabelSum

end
-- ==== Proof.Region.lean ====
/-
  The TensorCore call: from the reshaped partial sums and the old counts its body leaves the new counts and the class
  weights in its two result rows; the call as a region of @main, entered and left with every array held.
-/
module

public import proofs.«01_k».proof.Proof.Setup
public import Idealize.ShloMosaic.Lib.Pipeline.RegionArraysS
public import Idealize.ShloMosaic.Lib.ValueIdxCore

@[expose] public section

noncomputable section

namespace Cert.Proof.LabelSum

open Cert.KernelIdeal Cert.KernelIdeal.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1)
open Idealize.ShloMosaic.Pipeline (Dat BodyObligation)

variable {F : FTy → Type}

local notation "𝕄" => MT nD τ sig (HIx 1) (Elt F) ℕ UU ℕ

/-! ## The body -/

variable [FloatOps F]

/-- The new counts' row, from the partial sums and the old counts. -/
def countsRow (s : Vec F S4x128 .i32) (o : Vec F S2 .f32) : FVec F S1x128 .f32 :=
  k1_pay15 s (o (ix1 0)) (o (ix1 1))

/-- The class weights' row. -/
def weightsRow (s : Vec F S4x128 .i32) (o : Vec F S2 .f32) : FVec F S1x128 .f32 :=
  k1_pay1 (k1_pay11 s (o (ix1 0)) (o (ix1 1))) (k1_pay12 s (o (ix1 0)) (o (ix1 1)))
    k1_pay13 k1_pay14

/-- The body, on four staging buffers held whole: the first two are read, the two result rows are left in the others. -/
theorem body_run (c : Dev nD) (f0 : S4x128.Idx → Elt F .i32) (f1 : S2.Idx → Elt F .f32)
    (f2 : Buf (Elt F) ((stage1_2 0).view.loc (T c))) (f3 : Buf (Elt F) ((stage1_3 0).view.loc (T c))) (E : Set ℕ) (Q : PUnit → sProp 𝕄) :
    iprop(((stage1_0 0).view.loc (T c) ↦{fullShare} f0) ∗ ((stage1_1 0).view.loc (T c) ↦{fullShare} f1)
        ∗ ((stage1_2 0).view.loc (T c) ↦{fullShare} f2) ∗ ((stage1_3 0).view.loc (T c) ↦{fullShare} f3)
        ∗ (iprop(((stage1_0 0).view.loc (T c) ↦{fullShare} f0) ∗ ((stage1_1 0).view.loc (T c) ↦{fullShare} f1)
            ∗ ((stage1_2 0).view.loc (T c) ↦{fullShare} (countsRow f0 f1)) ∗ ((stage1_3 0).view.loc (T c) ↦{fullShare} (weightsRow f0 f1))) -∗ Q ⟨⟩))
      ⊢ wp frame (wpE (defs₀ (F := F)) Variants.none (T c) none) E
          (cc1__tc_finalize_body (stage1_0 0) (hstage1_0 0) (stage1_1 0) (hstage1_1 0) (stage1_2 0) (hstage1_2 0) (stage1_3 0) (hstage1_3 0)) Q := by
  rw [cc1__tc_finalize_body_eq_skeleton]
  unfold cc1__tc_finalize_body_skel
  rw [k1_part1_eq_skeleton]
  unfold k1_part1_skel
  iintro ⟨H0, H1, H2, H3, Hk⟩
  sl_exec!
  sl_step
  iapply Hk
  isplitl [H0]; · iexact H0
  isplitl [H1]; · iexact H1
  have h0 : (stage1_0 0).view.readAt (Elt F) (Rect.unit ![0, 0] S4x128.size inb_S4x128_S4x128_0_0).toLoadRect f0 = f0 :=
    View.readAt_full _ _ _
  have e0 : body_run.sl.r f1 = f1 (ix1 0) := by
    unfold body_run.sl.r
    exact congrArg f1 (funext fun a => match a with | 0 => rfl)
  have e1 : body_run.sl.r_1 f1 = f1 (ix1 1) := by
    unfold body_run.sl.r_1
    exact congrArg f1 (funext fun a => match a with | 0 => rfl)
  isplitl [H2]
  · iapply (Entails.of_eq ?_) $$ H2
    refine congrArg (fun f => (stage1_2 0).view.loc (T c) ↦{fullShare} f) ?_
    unfold body_run.sl.H2_1
    rw [e0, e1, h0]
    exact (View.read_whole _ _).symm.trans (View.read_writes_full (stage1_2 0).view _ _ _ [])
  iapply (Entails.of_eq ?_) $$ H3
  refine congrArg (fun f => (stage1_3 0).view.loc (T c) ↦{fullShare} f) ?_
  unfold body_run.sl.H3_1
  rw [e0, e1, h0]
  exact (View.read_whole _ _).symm.trans (View.read_writes_full (stage1_3 0).view _ _ _ [])

/-! ## The call's data -/

/-- The references of the TensorCore's arrays. -/
def ucRefs : Finset (DevRef τ sig) := (StableHlo.tcRefs τ sig).filter fun b => ¬ b.isScoped

omit [FloatOps F] in
/-- The launch's arrays at given contents are that set held at them. -/
theorem unscopedBufs_held (c : Dev nD) (W : Valuation τ sig (Elt F)) :
    (unscopedBufs c (fun b => W (Proc.devRef .tc b)) : sProp 𝕄) = StableHlo.held (T c) ucRefs W := by
  unfold unscopedBufs StableHlo.held ucRefs StableHlo.tcRefs
  rw [Finset.filter_map, bigSep_map]
  rfl

/-- What the waits recorded so far may be: of levels met by the end of the SparseCore call. -/
def met (c : Dev nD) : Set (SemLoc sig × HIx 1) := {p | (K (F := F)).lev (T c, p.1) p.2 ≤ 8 * SparseCore.Cfg.Blocks.fst 1 1 1}

variable (V : Valuation τ sig (Elt F))

/-- The call's data, entered with the arrays at `V`: the operands staged, the result rows the body's. -/
def dat (c : Dev nD) : Dat τ (Elt F) (HIx 1) ℕ UU ℕ cfg1 c where
  A w := V (Proc.devRef .tc (Pipeline.arrRef spec1 w))
  after w _ := match w with
    | ⟨0, _⟩ => V (Proc.devRef .tc main_v1)
    | ⟨1, _⟩ => V (Proc.devRef .tc main_arg1)
    | ⟨2, _⟩ => countsRow (V (Proc.devRef .tc main_v1)) (V (Proc.devRef .tc main_arg1))
    | ⟨3, _⟩ => weightsRow (V (Proc.devRef .tc main_v1)) (V (Proc.devRef .tc main_arg1))
  Φ _ := Pipeline.scopedRest (Ix := HIx 1) (Name := ℕ) (U := UU) (Lvl := ℕ) (Val := Elt F) spec1 c
  q _ := fullShare
  owed _ := 0
  recorded _ := met (F := F) c

/-- The pipeline has no prefetched table to choose. -/
abbrev adm : (p : Fin 1) → (pcfgs (F := F) p).Adm := fun p => (cfgs p).toPCfg_adm

/-- The call's data, for the program's one pipeline. -/
def pdats : (p : Fin 1) → (c : Dev nD) → Dat τ (Elt F) (HIx 1) ℕ UU ℕ (Pipeline.pin (pcfgs (F := F)) adm p) c
  | ⟨0, _⟩ => fun c => dat V c

omit [FloatOps F] in
/-- A window's one block is its whole array. -/
theorem blk_0 (g : S4x128.Idx → Elt F .i32) : (win1_0.blk t1_0).view.read (Elt F) g = g :=
  funext fun x => congrArg g (funext fun a => Fin.ext (show 0 * S4x128.size a + 1 * (x a).val = (x a).val by omega))
omit [FloatOps F] in
/-- The same of the old counts; -/
theorem blk_1 (g : S2.Idx → Elt F .f32) : (win1_1.blk t1_0).view.read (Elt F) g = g :=
  funext fun x => congrArg g (funext fun a => Fin.ext (show 0 * S2.size a + 1 * (x a).val = (x a).val by omega))
omit [FloatOps F] in
/-- of the counts' row; -/
theorem blk_2 (g : S1x128.Idx → Elt F .f32) : (win1_2.blk t1_0).view.read (Elt F) g = g :=
  funext fun x => congrArg g (funext fun a => Fin.ext (show 0 * S1x128.size a + 1 * (x a).val = (x a).val by omega))
omit [FloatOps F] in
/-- of the weights' row. -/
theorem blk_3 (g : S1x128.Idx → Elt F .f32) : (win1_3.blk t1_0).view.read (Elt F) g = g :=
  funext fun x => congrArg g (funext fun a => Fin.ext (show 0 * S1x128.size a + 1 * (x a).val = (x a).val by omega))

/-- The body finds the partial sums in the first window; -/
theorem before_0 (c : Dev nD) (d : (cfg1.win 0).block.Idx → Elt F (cfg1.win 0).elt) :
    (dat V c).before 0 t1_0 d = V (Proc.devRef .tc main_v1) := by
  unfold Dat.before; rw [if_pos (by decide)]; exact blk_0 (F := F) _
/-- and the old counts in the second. -/
theorem before_1 (c : Dev nD) (d : (cfg1.win 1).block.Idx → Elt F (cfg1.win 1).elt) :
    (dat V c).before 1 t1_0 d = V (Proc.devRef .tc main_arg1) := by
  unfold Dat.before; rw [if_pos (by decide)]; exact blk_1 (F := F) _

/-- The body does its part at the one point of the call. -/
theorem body_obligation (c : Dev nD) : BodyObligation (dat V c) (defs₀ (F := F)) 𝒱₀ none Set.univ := fun t => by
  obtain rfl := fin_N1 t
  rw [bigSep_W1, bigSep_W1]
  simp only [owns_whole_eq]
  iintro ⟨HΦ, Howes, ⟨%d0, %f0, %hf0, H0⟩, ⟨%d1, %f1, %hf1, H1⟩, ⟨%d2, %f2, -, H2⟩, ⟨%d3, %f3, -, H3⟩⟩
  rw [before_0] at hf0
  rw [before_1] at hf1
  iapply (body_run c _ _ f2 f3 Set.univ _)
  isplitl [H0]; · iexact H0
  isplitl [H1]; · iexact H1
  isplitl [H2]; · iexact H2
  isplitl [H3]; · iexact H3
  iintro ⟨H0, H1, H2, H3⟩
  isplitl [HΦ]; · iapply (Entails.of_eq (show (dat V c).Φ t1_0.castSucc = (dat V c).Φ t1_0.succ from rfl)) $$ HΦ
  isplitl [Howes]; · iexact Howes
  isplitl [H0]; · iexists _; isplitr; swap; (· iexact H0); ipureintro; dsimp only [dat]; rw [hf0]
  isplitl [H1]; · iexists _; isplitr; swap; (· iexact H1); ipureintro; dsimp only [dat]; rw [hf1]
  isplitl [H2]; · iexists _; isplitr; swap; (· iexact H2); ipureintro; dsimp only [dat]; rw [hf0, hf1]
  iexists _; isplitr; swap; (· iexact H3); ipureintro; dsimp only [dat]; rw [hf0, hf1]

/-! ## The arrays after the call -/

/-- After the call the third array is the counts' row; -/
theorem arrAt_counts (c : Dev nD) :
    (dat V c).arrAt 2 cfg1.N = countsRow (V (Proc.devRef .tc main_v1)) (V (Proc.devRef .tc main_arg1)) := by
  have h := (dat V c).arrAt_succ 2 t1_0
  rw [if_pos (flush1_2 t1_0)] at h
  have hN : cfg1.N = t1_0.val + 1 := N_1
  rw [hN, h]
  exact (blk_2 (F := F) _).symm.trans (View.read_write_univ _ _)

/-- and the fourth is the weights' row. -/
theorem arrAt_weights (c : Dev nD) :
    (dat V c).arrAt 3 cfg1.N = weightsRow (V (Proc.devRef .tc main_v1)) (V (Proc.devRef .tc main_arg1)) := by
  have h := (dat V c).arrAt_succ 3 t1_0
  rw [if_pos (flush1_3 t1_0)] at h
  have hN : cfg1.N = t1_0.val + 1 := N_1
  rw [hN, h]
  exact (blk_3 (F := F) _).symm.trans (View.read_write_univ _ _)

/-- The arrays after the call. -/
abbrev afterCall (c : Dev nD) : Valuation τ sig (Elt F) := Pipeline.afterRegion (dat V c) V

/-- The counts' row after the call; -/
theorem afterCall_counts (c : Dev nD) :
    afterCall V c (Proc.devRef .tc main_v2_0) = countsRow (V (Proc.devRef .tc main_v1)) (V (Proc.devRef .tc main_arg1)) :=
  (Pipeline.afterRegion_arr (dat V c) V winFacts1.arr_inj 2).trans (arrAt_counts V c)
/-- the weights' row after it. -/
theorem afterCall_weights (c : Dev nD) :
    afterCall V c (Proc.devRef .tc main_v2_1) = weightsRow (V (Proc.devRef .tc main_v1)) (V (Proc.devRef .tc main_arg1)) :=
  (Pipeline.afterRegion_arr (dat V c) V winFacts1.arr_inj 3).trans (arrAt_weights V c)
/-- The call keeps an array that is none of its results. -/
theorem afterCall_keeps (c : Dev nD) (r : Ref sig .tc) (h : ∀ w, Pipeline.arrRef spec1 w = r → (win1 w).isOut = false) :
    afterCall V c (Proc.devRef .tc r) = V (Proc.devRef .tc r) :=
  Pipeline.afterRegion_keeps (dat V c) V winFacts1.arr_inj (fun _ => rfl) r h

/-! ## The call as a region -/

/-- What the thread owes at the region's ends: nothing, every wait it recorded of a level met. -/
abbrev owesMet (c : Dev nD) : sProp 𝕄 :=
  iprop(∃ W, ⌜(K (F := F)).WBelow (T c) W (8 * SparseCore.Cfg.Blocks.fst 1 1 1)⌝ ∗ owes (T c) (0 : CellTallies nD τ sig (HIx 1)) W)

/-- The call's arrays are host arrays. -/
theorem arrs_sub : Pipeline.arrRefs (τ := τ) spec1 ⊆ ucRefs := by decide

set_option backward.isDefEq.respectTransparency.types false in
/-- The call's region, over every array of the TensorCore. -/
def reg : Pipeline.RegionSeg (pcfgs (F := F)) adm (pdats V) none defs₀ 𝒱₀ (fun _ => ∅) (fun _ _ => 0) 0 where
  win := launch1.toP.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(StableHlo.held (T c) ucRefs V ∗ owesMet (F := F) c)
  post c := iprop(StableHlo.held (T c) ucRefs (afterCall V c) ∗ owesMet (F := F) c)
  X _ := BI.emp
  Y _ := BI.emp
  Z c := StableHlo.held (T c) (ucRefs \ Pipeline.arrRefs spec1) V
  hentry c := by
    rw [Pipeline.ownSems0_none, StableHlo.held_sub_split (T c) arrs_sub V]
    have hsplit := Pipeline.arrays_held (pcfgs (F := F)) adm (pdats V) 0 launch1.toP c ((pdats V 0 c).share_full fun _ => rfl)
      ((pdats V 0 c).arrAt · 0) V fun _ => rfl
    iintro ⟨⟨⟨Ha, Hr⟩, HO⟩, -, -⟩
    imodintro
    isplitl [Ha]; · iapply (Entails.of_eq hsplit.symm) $$ Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hr
  hin c := by
    iintro ⟨-, -, Hr⟩
    iapply (Entails.of_eq (show Pipeline.scopedRest (Pipeline.pin (pcfgs (F := F)) adm 0).spec c = (pdats V 0 c).Φ 0 from rfl)) $$ Hr
  hout c := by
    rw [Pipeline.ownSems0_none]
    iintro Hr
    isplitr; · iempintro
    isplitr; · iempintro
    iapply (Entails.of_eq (show (pdats V 0 c).Φ (Fin.last _) = Pipeline.scopedRest (Pipeline.pin (pcfgs (F := F)) adm 0).spec c from rfl)) $$ Hr
  hexit c := by
    rw [StableHlo.held_sub_split (T c) arrs_sub (afterCall V c),
      StableHlo.held_congr (T c) (S := ucRefs \ Pipeline.arrRefs spec1) (V := afterCall V c) (V' := V) (Pipeline.afterRegion_off (dat V c) V ucRefs)]
    have hjoin := Pipeline.arrays_held (pcfgs (F := F)) adm (pdats V) 0 launch1.toP c ((pdats V 0 c).share_full fun _ => rfl)
      ((pdats V 0 c).arrAt · cfg1.N) (afterCall V c) fun w => (Pipeline.afterRegion_arr (dat V c) V winFacts1.arr_inj w).symm
    iintro ⟨Ha, HO, -, Hr⟩
    imodintro
    isplitl [Ha Hr]
    · isplitl [Ha]; · iapply (Entails.of_eq hjoin) $$ Ha
      iexact Hr
    unfold Pipeline.Dat.owesAt Pipeline.owesWithin
    icases HO with ⟨%W, %hW, HO⟩; iexists W
    isplitr
    · ipureintro
      intro p hp
      rcases hW hp with h | h
      · exact h
      · obtain ⟨w, t, rfl⟩ := h
        exact Nat.zero_le _
    iexact HO

end Cert.Proof.LabelSum

end
-- ==== Proof.Main.lean ====
/-
  The program's run: @main starts the SparseCore call, reshapes the partial sums, runs the TensorCore call, and cuts the
  two results out of its rows. Every execution ends with the arguments as at the launch and the results as named here.
-/
module

public import proofs.«01_k».proof.Proof.Launch
public import proofs.«01_k».proof.Proof.Region

@[expose] public section

noncomputable section

namespace Cert.Proof.LabelSum

open Cert.KernelIdeal Cert.KernelIdeal.Gen

open Idealize.ShloMosaic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The launch element -/

/-- The handshakes' rounds and the pipeline's, at their starts. -/
def u₀ : UU :=
  (initOf (K (F := F)).hsCells (K (F := F)).hsToks, (initOf (Pipeline.cells cfgs cellOf_inj) (Pipeline.launchToks cfgs cellOf_inj), 1))

/-- The pipeline's cells and tokens on a device. -/
abbrev G (d : Dev nD) : sProp 𝕄 :=
  iprop((bigSep Finset.univ fun p => Pipeline.cellsGhost cfgs EP p d) ∗ bigSep Finset.univ fun p => Pipeline.toksInit cfgs EP p d)

/-- A product of empty assertions is empty. -/
theorem bigSep_emp' {I : Type} (s : Finset I) : (bigSep s fun _ => iprop(emp)) = (iprop(emp) : sProp 𝕄) := bigSep_emp_const s

/-- No cell carries a level. -/
theorem levAts_none : (levAts (fun _ => ∅) fun _ _ => 0 : sProp 𝕄) = iprop(emp) :=
  (bigSep_congr fun _ _ => bigSep_empty).trans (bigSep_emp' _)

/-- The launch's resources: the handshakes' and, for each device, the TensorCore call's. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost cfgs EP cellOf_inj) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays through @main -/

variable [FloatOps F]

/-- The launch contents; -/
abbrev V0 (d : Dev nD) : Valuation τ sig (Elt F) := fun b => m (d, b)
/-- after the SparseCore call; -/
abbrev V1 (d : Dev nD) : Valuation τ sig (Elt F) := Function.update (V0 m d) (Proc.devRef .tc main_v0) (sums m d)

/-- @main's host operations in order: the partial sums as four rows of 128; -/
abbrev opShape : HloOp τ sig (Elt F) := StableHlo.reshape main_v0 main_v1 (rfl : (.i32 : EltTy) = .i32) shapeCasts_S512_S4x128
/-- the counts' row cut to its first two lanes, -/
abbrev opCut4 : HloOp τ sig (Elt F) := StableHlo.unary main_v2_0 main_v3 ((extractStridedSlice S1x2 ![0, 0] · slices_S1x128_S1x2_0_0) : (⟨S1x128, .f32⟩ : BufTy).Contents (Elt F) → (⟨S1x2, .f32⟩ : BufTy).Contents (Elt F))
/-- and these as a vector of two; -/
abbrev opOut4 : HloOp τ sig (Elt F) := StableHlo.reshape main_v3 main_v4 (rfl : (.f32 : EltTy) = .f32) shapeCasts_S1x2_S2
/-- the weights' row cut to its first two lanes, -/
abbrev opCut6 : HloOp τ sig (Elt F) := StableHlo.unary main_v2_1 main_v5 ((extractStridedSlice S1x2 ![0, 0] · slices_S1x128_S1x2_0_0) : (⟨S1x128, .f32⟩ : BufTy).Contents (Elt F) → (⟨S1x2, .f32⟩ : BufTy).Contents (Elt F))
/-- and these as a vector of two. -/
abbrev opOut6 : HloOp τ sig (Elt F) := StableHlo.reshape main_v5 main_v6 (rfl : (.f32 : EltTy) = .f32) shapeCasts_S1x2_S2

/-- before the TensorCore call; -/
abbrev V2 (d : Dev nD) : Valuation τ sig (Elt F) := opShape.result (V1 m d)
/-- after it; -/
abbrev V3 (d : Dev nD) : Valuation τ sig (Elt F) := afterCall (V2 m d) d
/-- at @main's end. -/
abbrev V7 (d : Dev nD) : Valuation τ sig (Elt F) := opOut6.result (opCut6.result (opOut4.result (opCut4.result (V3 m d))))

/-- The labels' and the partial sums' arrays. -/
abbrev scRefs : Finset (DevRef τ sig) := {Proc.devRef .tc main_arg0, Proc.devRef .tc main_v0}
/-- The two are host arrays. -/
theorem scRefs_sub : scRefs ⊆ ucRefs := by decide

omit [FloatOps F] in
/-- All host arrays are these two and the others. -/
theorem held_sc (d : Dev nD) (V : Valuation τ sig (Elt F)) :
    (held (T d) ucRefs V : sProp 𝕄) = iprop(((yLoc d ↦{fullShare} V (Proc.devRef .tc main_arg0)) ∗ (oLoc d ↦{fullShare} V (Proc.devRef .tc main_v0)))
      ∗ held (T d) (ucRefs \ scRefs) V) := by
  rw [StableHlo.held_sub_split (T d) scRefs_sub V]
  congr 1
  unfold held
  rw [SparseCore.bigSep_insert' (by decide), bigSep_singleton]

omit [FloatOps F] in
/-- The SparseCore call changes the partial sums only. -/
theorem V1_off (d : Dev nD) {b : DevRef τ sig} (h : b ≠ Proc.devRef .tc main_v0) : V1 m d b = V0 m d b := Function.update_of_ne h _ _

omit [FloatOps F] in
/-- After the SparseCore call the labels are as launched and the partial sums are as named, the others as launched. -/
theorem held_V1 (d : Dev nD) :
    (held (T d) ucRefs (V1 m d) : sProp 𝕄) = iprop(((yLoc d ↦{fullShare} m (yLoc d)) ∗ (oLoc d ↦{fullShare} sums m d))
      ∗ held (T d) (ucRefs \ scRefs) (V0 m d)) := by
  have hr : (held (T d) (ucRefs \ scRefs) (V1 m d) : sProp 𝕄) = held (T d) (ucRefs \ scRefs) (V0 m d) :=
    StableHlo.held_congr (T d) fun b hb => V1_off m d fun h => (Finset.mem_sdiff.mp hb).2 (by rw [h]; decide)
  rw [held_sc, hr, show V1 m d (Proc.devRef .tc main_v0) = sums m d from Function.update_self _ _ _,
    V1_off m d (show (Proc.devRef .tc main_arg0 : DevRef τ sig) ≠ Proc.devRef .tc main_v0 by decide)]

omit [FloatOps F] in
/-- Each host operation reads and writes host arrays only: the first reshape; -/
theorem shape_sub : (opShape (F := F)).bufs ⊆ ucRefs := show ({_, _} : Finset (DevRef τ sig)) ⊆ ucRefs by decide
omit [FloatOps F] in
/-- the first cut, -/
theorem cut4_sub : (opCut4 (F := F)).bufs ⊆ ucRefs := show ({_, _} : Finset (DevRef τ sig)) ⊆ ucRefs by decide
omit [FloatOps F] in
/-- and its reshape; -/
theorem out4_sub : (opOut4 (F := F)).bufs ⊆ ucRefs := show ({_, _} : Finset (DevRef τ sig)) ⊆ ucRefs by decide
omit [FloatOps F] in
/-- the second cut, -/
theorem cut6_sub : (opCut6 (F := F)).bufs ⊆ ucRefs := show ({_, _} : Finset (DevRef τ sig)) ⊆ ucRefs by decide
omit [FloatOps F] in
/-- and its reshape. -/
theorem out6_sub : (opOut6 (F := F)).bufs ⊆ ucRefs := show ({_, _} : Finset (DevRef τ sig)) ⊆ ucRefs by decide

omit [FloatOps F] in
/-- @main's call of the TensorCore kernel is the kernel's own call, lifted. -/
theorem call_lifted : (SparseCore.liftProg (Q := 1) (.op (.customCall (Pipeline.entry 0) ()) .ret) : Prog (TpuEff nD τ sig (Elt F) (SparseCore.Sig (ΛP (F := F)) 1) .tc) PUnit)
    = Prog.lift (.customCall (SparseCore.inner (Pipeline.entry 0)) ()) := rfl

/-- A run of the TensorCore kernel's own call is a run of @main's call of it. -/
theorem lift_call (d : Dev nD) (Q : PUnit → sProp 𝕄) :
    wp frame (wpE (D (F := F)) 𝒱 (T d) none) Set.univ (.op (.customCall (Pipeline.entry 0) ()) .ret) Q
      ⊢ wp frame (wpE ((K (F := F)).defs (D (F := F))) 𝒱 (T d) none) Set.univ
          (Prog.lift (.customCall (SparseCore.inner (Pipeline.entry 0)) ())) Q := by
  have h := (K (F := F)).wp_liftProg (D (F := F)) 𝒱 (T d) Set.univ none (.op (.customCall (Pipeline.entry 0) ()) .ret) Q
  rw [← call_lifted]
  exact h

/-- The TensorCore call, in @main: entered with the arrays held, left with them as the region leaves them. -/
theorem call_run [∀ e, Nonempty (Elt F e)] (d : Dev nD) (V : Valuation τ sig (Elt F)) (Q : PUnit → sProp 𝕄) :
    iprop(boundary (T d) ∗ held (T d) ucRefs V ∗ owesMet (F := F) d ∗ G (F := F) d
        ∗ (iprop(boundary (T d) ∗ held (T d) ucRefs (afterCall V d) ∗ owesMet (F := F) d) -∗ Q ⟨⟩))
      ⊢ wp frame (wpE ((K (F := F)).defs (D (F := F))) 𝒱 (T d) none) Set.univ
          (Prog.lift (.customCall (SparseCore.inner (Pipeline.entry 0)) ())) Q := by
  have h := Pipeline.RegionSeg.wp (pcfgs (F := F)) adm (pdats V) none cellOf_inj EP defs₀ 𝒱₀ (fun _ => ∅) (fun _ _ => 0) (reg V) d none
    (fun _ h => nomatch h) (fun _ => .ret ⟨⟩) Q
  refine .trans ?_ (lift_call d Q)
  refine .trans ?_ h
  iintro ⟨Hb, Hh, HO, ⟨Hg, Ht⟩, Hk⟩
  isplitl [Hk]
  · iintro ⟨Hb, Hp⟩
    ihave Hp' := (Entails.of_eq (show (reg V).post d = iprop(held (T d) ucRefs (afterCall V d) ∗ owesMet (F := F) d) from rfl)) $$ Hp
    icases Hp' with ⟨Hh, HO⟩
    rw [wp_ret]
    imodintro
    iapply Hk
    isplitl [Hb]; · iexact Hb
    isplitl [Hh] <;> iassumption
  isplitl [Hb]; · iexact Hb
  isplitl [Hh HO]
  · iapply (Entails.of_eq (show iprop(held (T d) ucRefs V ∗ owesMet (F := F) d) = (reg V).pre d from rfl))
    isplitl [Hh] <;> iassumption
  isplitr
  · iapply (Entails.of_eq (levAts_none (F := F)).symm)
    iempintro
  ihave Hg' := (Entails.of_eq (bigSep_univ_of_subsingleton (0 : Fin 1))) $$ Hg
  ihave Ht' := (Entails.of_eq (bigSep_univ_of_subsingleton (0 : Fin 1))) $$ Ht
  isplitl [Hg'] <;> iassumption

/-- What @main leaves the claims. -/
abbrev FIN (d : Dev nD) : sProp 𝕄 := held (T d) ucRefs (V7 m d)

/-- @main runs: the SparseCore call, the reshape, the TensorCore call, the cuts and the reshapes of its two rows. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, bufs, Hts, -⟩, Hg⟩
  ihave Hh := (Entails.of_eq ((unscopedBufs_held d (V0 m d)).trans (held_sc d _))) $$ bufs
  icases Hh with ⟨⟨Hy, Ho⟩, Hr⟩
  iapply ((K (F := F)).wp_run (D (F := F)) 𝒱 (EH := EH) (P := P m) κ d 0) $$ [Hst Hy Ho Hb Hts Hr Hg]
  isplitr; · iexact Hctx
  isplitl [Hst]; · iexact Hst
  isplitl [Hy Ho]
  · iapply (Entails.of_eq (st_eq m d).symm)
    isplitl [Hy] <;> iassumption
  iintro ⟨Hst, Hdn⟩
  ihave Hdn' := (Entails.of_eq (dn_eq m d)) $$ Hdn
  icases Hdn' with ⟨Hy, Ho⟩
  iapply (wp_hlo_within 𝒱 (SparseCore.T d) none Set.univ (op := opShape) (S := ucRefs) shape_sub (V := V1 m d)) $$ [Hb Hy Ho Hr]
  · isplitl [Hb]; · iexact Hb
    rw [held_V1]
    isplitl [Hy Ho]
    · isplitl [Hy] <;> iassumption
    iexact Hr
  iintro ⟨Hb, Hheld⟩
  rw [wp_ret]
  imodintro
  unfold SparseCore.Cfg.tcSt
  icases Hst with ⟨HO, Hst⟩
  rw [(K (F := F)).Otc_end d (show 1 ≤ (0 : Fin 1).val + 1 from le_rfl), (K (F := F)).Otc_end d (le_refl 1)]
  iapply (call_run d (V2 m d) _) $$ [Hb Hheld HO Hg Hst Hts]
  isplitl [Hb]; · iexact Hb
  isplitl [Hheld]; · iexact Hheld
  isplitl [HO]; · iexact HO
  isplitl [Hg]; · iexact Hg
  iintro ⟨Hb, Hheld, HO⟩
  iapply (wp_hlo_within 𝒱 (SparseCore.T d) none Set.univ (op := opCut4) (S := ucRefs) cut4_sub (V := V3 m d)) $$ [Hb Hheld]
  · isplitl [Hb] <;> iassumption
  iintro ⟨Hb, Hheld⟩
  rw [wp_ret]
  imodintro
  iapply (wp_hlo_within 𝒱 (SparseCore.T d) none Set.univ (op := opOut4) (S := ucRefs) out4_sub) $$ [Hb Hheld]
  · isplitl [Hb] <;> iassumption
  iintro ⟨Hb, Hheld⟩
  rw [wp_ret]
  imodintro
  iapply (wp_hlo_within 𝒱 (SparseCore.T d) none Set.univ (op := opCut6) (S := ucRefs) cut6_sub) $$ [Hb Hheld]
  · isplitl [Hb] <;> iassumption
  iintro ⟨Hb, Hheld⟩
  rw [wp_ret]
  imodintro
  iapply (wp_hlo_within 𝒱 (SparseCore.T d) none Set.univ (op := opOut6) (S := ucRefs) out6_sub) $$ [Hb Hheld]
  · isplitl [Hb] <;> iassumption
  iintro ⟨Hb, Hheld⟩
  rw [wp_ret]
  imodintro
  imodintro
  isplitl [HO Hst]
  · isplitl [HO]; · iexact HO
    iexact Hst
  isplitl [Hheld]; · iexact Hheld
  isplitl [Hb] <;> iassumption

/-! ## What the end state holds -/

omit [FloatOps F] in
/-- An array held is what the memory holds. -/
theorem held_read (d : Dev nD) (V : Valuation τ sig (Elt F)) {b : DevRef τ sig} (hb : b ∈ ucRefs) (s' : Phys nD τ sig (Elt F)) :
    iprop(held (T d) ucRefs V ∗ SI s') ⊢ (⌜s'.mem.mem (d, b) = V b⌝ : sProp 𝕄) := by
  unfold held
  rw [SparseCore.bigSep_erase' hb]
  iintro ⟨⟨Hx, -⟩, HSI⟩
  ihave H := (SI_pointsTo_agree (st := s') (ℓ := (d, b)) (I := Finset.univ) (q := fullShare) (f := V b)) $$ [HSI Hx]
  · isplitl [HSI] <;> iassumption
  icases H with %h
  ipureintro
  exact funext fun i => h i (Finset.mem_univ i)

/-- What is then known of the memory: every host array is as named. -/
def fq (d : Dev nD) (s' : Phys nD τ sig (Elt F)) : Prop := ∀ b ∈ ucRefs, s'.mem.mem (d, b) = V7 m d b

/-- What @main leaves says so. -/
theorem hfin (d : Dev nD) (s' : Phys nD τ sig (Elt F)) : iprop(FIN m d ∗ SI s') ⊢ (⌜fq m d s'⌝ : sProp 𝕄) :=
  fun a ha _ hb => held_read d (V7 m d) hb s' a ha

/-- The end of every execution: each device's host arrays as named, every semaphore at zero. -/
def QC (r : PUnit × MemSt nD τ sig (Elt F)) : Prop :=
  (∀ d, ∀ b ∈ ucRefs, r.2.mem (d, b) = V7 m d b) ∧ r.2.sem = fun _ => 0

/-- Every execution ends with the host arrays as named and every semaphore at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.LabelSum

end
-- ==== Proof.Results.lean ====
/-
  The run read at @main's arguments and results: the arguments end as launched, each result is its row of the TensorCore
  call cut to its first two lanes. The program as printed and its ideal reading are one text, so one proof serves both.
-/
module

public import proofs.«01_k».proof.Proof.Main
public import proofs.«01_k».proof.Proof.Gen.Kernel

@[expose] public section

noncomputable section

namespace Cert.Proof.LabelSum

open Cert.KernelIdeal Cert.KernelIdeal.Gen

open Idealize.ShloMosaic
open Idealize.SL.Sem
open Idealize.ShloMosaic.StableHlo

variable {F : FTy → Type} [FloatOps F]
variable (m : (ℓ : Loc nD τ sig) → Buf (Elt F) ℓ) (ρ : Dev nD → PrngReg)

/-- A row of 128 lanes cut to its first two. -/
def firstTwo (x : S1x128.Idx → Elt F .f32) : S2.Idx → Elt F .f32 :=
  shapeCast S2 (extractStridedSlice S1x2 ![0, 0] x slices_S1x128_S1x2_0_0) shapeCasts_S1x2_S2

/-- The partial sums as the TensorCore call takes them, four rows of 128. -/
abbrev stacked (d : Dev nD) : S4x128.Idx → BitVec 32 := shapeCast S4x128 (sums m d) shapeCasts_S512_S4x128

omit [FloatOps F] in
/-- The TensorCore call takes the partial sums, -/
theorem V2_v1 (d : Dev nD) : V2 m d (Proc.devRef .tc main_v1) = stacked m d := by
  rw [V2, opShape, reshape_result, V1, Function.update_self]
  rfl

/-- @main writes neither argument: the reshapes and the cuts write their own results, the TensorCore call its two rows. -/
theorem V7_off (d : Dev nD) (r : Ref sig .tc) (h0 : r ≠ main_v0) (h1 : r ≠ main_v1) (h3 : r ≠ main_v3) (h4 : r ≠ main_v4) (h5 : r ≠ main_v5) (h6 : r ≠ main_v6)
    (hc : ∀ w, Pipeline.arrRef spec1 w = r → (win1 w).isOut = false) : V7 m d (Proc.devRef .tc r) = m (d, Proc.devRef .tc r) := by
  rw [V7, opOut6, reshape_result_ne (h := h6), opCut6, unary_result_ne (h := h5), opOut4, reshape_result_ne (h := h4), opCut4,
    unary_result_ne (h := h3), V3, afterCall_keeps _ _ _ hc, V2, opShape, reshape_result_ne (h := h1), V1,
    Function.update_of_ne (devRef_ne_of_ne h0)]

omit [FloatOps F] in
/-- and the old counts as launched. -/
theorem V2_arg1 (d : Dev nD) : V2 m d (Proc.devRef .tc main_arg1) = m (cLoc d) := by
  rw [V2, opShape, reshape_result_ne (h := by decide), V1, Function.update_of_ne (devRef_ne_of_ne (by decide))]

/-- The first result is the counts' row cut to two lanes; -/
theorem V7_v4 (d : Dev nD) : V7 m d (Proc.devRef .tc main_v4) = firstTwo (countsRow (stacked m d) (m (cLoc d))) := by
  rw [V7, opOut6, reshape_result_ne (h := by decide), opCut6, unary_result_ne (h := by decide), opOut4, reshape_result, opCut4, unary_result,
    V3, afterCall_counts, V2_v1, V2_arg1]
  rfl

/-- the second is the weights' row cut to two lanes. -/
theorem V7_v6 (d : Dev nD) : V7 m d (Proc.devRef .tc main_v6) = firstTwo (weightsRow (stacked m d) (m (cLoc d))) := by
  rw [V7, opOut6, reshape_result, opCut6, unary_result, opOut4, reshape_result_ne (h := by decide), opCut4, unary_result_ne (h := by decide),
    V3, afterCall_weights, V2_v1, V2_arg1]
  rfl

/-- Every execution ends with the results as named, the arguments as launched and every semaphore at zero. -/
theorem run_results [∀ e, Nonempty (Elt F e)] : θ_run (defs (F := F)) (threads (F := F)) ⟨m, fun _ => 0, ρ⟩ fun r =>
    (∀ d : Dev nD, r.2.mem ((d.tc : Thread nD τ).loc main_v4) = firstTwo (countsRow (stacked m d) (m (cLoc d)))
      ∧ r.2.mem ((d.tc : Thread nD τ).loc main_v6) = firstTwo (weightsRow (stacked m d) (m (cLoc d)))
      ∧ r.2.mem ((d.tc : Thread nD τ).loc main_arg0) = m ((d.tc : Thread nD τ).loc main_arg0) ∧ r.2.mem ((d.tc : Thread nD τ).loc main_arg1) = m ((d.tc : Thread nD τ).loc main_arg1))
    ∧ r.2.sem = fun _ => 0 :=
  (θ_run _ _ _).mono (fun _ h => ⟨fun d =>
    ⟨(h.1 d (Proc.devRef .tc main_v4) (by decide)).trans (V7_v4 m d), (h.1 d (Proc.devRef .tc main_v6) (by decide)).trans (V7_v6 m d),
      (h.1 d (Proc.devRef .tc main_arg0) (by decide)).trans (V7_off m d main_arg0 (by decide) (by decide) (by decide) (by decide) (by decide) (by decide) (by decide)),
      (h.1 d (Proc.devRef .tc main_arg1) (by decide)).trans (V7_off m d main_arg1 (by decide) (by decide) (by decide) (by decide) (by decide) (by decide) (by decide))⟩,
    h.2⟩) (run_main m ρ)

/-! ## The printed program -/

omit [FloatOps F] in
/-- The tile's task, the TensorCore's body and so every body of the printed program are its ideal reading's. -/
theorem task_printed (i : grid0.Coords) : @Cert.Kernel.cc0__sc_partial_sums_body F _ i = @Cert.KernelIdeal.cc0__sc_partial_sums_body F _ i := rfl

/-- The printed program's kernels are its ideal reading's, -/
theorem kernels_printed : Cert.Kernel.defs₀ (F := F) = Cert.KernelIdeal.defs₀ (F := F) :=
  funext fun pr => funext fun ℓ => funext fun a => match pr, ℓ, a with
    | .scVector c s, 0, a => by
      unfold Cert.Kernel.defs₀ Cert.KernelIdeal.defs₀
      simp only [task_printed]
      rfl
    | .scVector c s, 1, a => rfl
    | .scScalar c, 0, a => rfl
    | .scScalar c, 1, a => rfl
    | .tc, 0, a => rfl
    | .tc, 1, (t, s) => rfl

/-- and so are all its procedures. -/
theorem defs_printed : Cert.Kernel.defs (F := F) = Cert.KernelIdeal.defs (F := F) := by
  unfold Cert.Kernel.defs Cert.KernelIdeal.defs
  rw [show Cert.Kernel.defs₀ (F := F) = Cert.KernelIdeal.defs₀ (F := F) from kernels_printed]
  rfl

/-- The same run, of the program as printed. -/
theorem run_printed [∀ e, Nonempty (Elt F e)] : θ_run (Cert.Kernel.defs (F := F)) (Cert.Kernel.threads (F := F)) ⟨m, fun _ => 0, ρ⟩ fun r =>
    (∀ d : Dev nD, r.2.mem ((d.tc : Thread nD τ).loc main_arg0) = m ((d.tc : Thread nD τ).loc main_arg0) ∧ r.2.mem ((d.tc : Thread nD τ).loc main_arg1) = m ((d.tc : Thread nD τ).loc main_arg1))
    ∧ r.2.sem = fun _ => 0 := by
  rw [defs_printed]
  exact (θ_run _ _ _).mono (fun _ h => ⟨fun d => (h.1 d).2.2, h.2⟩) (run_results m ρ)

end Cert.Proof.LabelSum

end
-- ==== Proof.Values.lean ====
/-
  The two results as extended reals: the kernel's rows at the first two lanes, and the reference's counts and weights, the same
  numbers for labels of the two classes. The two programs differ in three places: the kernel takes class 0's count as the number of
  labels less class 1's, where the reference counts it; the kernel adds two lanes, where the reference sums a vector of two; and the
  kernel multiplies by one half, where the reference divides by two.
-/
module

public import proofs.«01_k».proof.Proof.Labels
public import proofs.«01_k».proof.Proof.Results
public import Idealize.ShloMosaic.Lib.IdealHost

@[expose] public section

noncomputable section

namespace Cert.Proof.LabelSum

open Cert.KernelIdeal Cert.KernelIdeal.Gen
open Idealize.ShloMosaic Idealize.ShloMosaic.ValueIdx

/-! ## Literals -/

/-- The pattern of one half is the half. -/
theorem ofBits_half : Ideal.ofBits .f32 0x3F000000#32 = (((1 : ℝ) / 2 : ℝ) : EReal) := by
  simp [Ideal.ofBits, Ideal.ieee, -EReal.coe_mul]; norm_num

/-- The pattern of two is two. -/
theorem ofBits_two : Ideal.ofBits .f32 0x40000000#32 = ((2 : ℝ) : EReal) := by
  simp [Ideal.ofBits, Ideal.ieee, -EReal.coe_mul]; norm_num

/-- The pattern the kernel takes the labels' number from is that number. -/
theorem ofBits_many : Ideal.ofBits .f32 0x4B000000#32 = ((8388608 : ℝ) : EReal) := by
  simp [Ideal.ofBits, Ideal.ieee, -EReal.coe_mul]

/-- To divide by two is to multiply by one half. -/
theorem div_two (x : EReal) : Ideal.div x (Ideal.ofBits .f32 0x40000000#32) = x * Ideal.ofBits .f32 0x3F000000#32 := by
  have h2 : ((2 : ℝ) : EReal) ≠ 0 := by norm_num
  rw [ofBits_two, ofBits_half, Ideal.div, if_neg h2, ← EReal.coe_inv, one_div]

/-! ## The kernel -/

/-- A reshape keeps the sum. -/
theorem sum_shapeCast {s t : Shape} (x : s.Idx → BitVec 32) (h : s.ShapeCasts t) : ∑ j, shapeCast t x h j = ∑ i, x i :=
  Equiv.sum_comp (Shape.reshapeEquiv h) x

/-- The TensorCore's count of class 1: the sum of the partial sums, as a real number. -/
theorem pay2_eq (s : Vec Ideal S4x128 .i32) : k1_pay2 (F := Ideal) s = (((∑ j, s j : BitVec 32).toInt : ℝ) : EReal) := by
  have all (i : S1x4x128.Idx) (j : S1.Idx) : (reduces_S1x4x128_S1).drop i = j := by
    have : Subsingleton S1.Idx := ⟨fun a b => by rw [eq_ix1 a, eq_ix1 b]; exact congrArg ix1 (Subsingleton.elim (α := Fin 1) _ _)⟩
    exact Subsingleton.elim _ _
  have red (x : IVec S1x4x128 32) (j : S1.Idx) : multiReductionI .add [1, 2] S1 x 0#32 reduces_S1x4x128_S1 rfl j = ∑ i, x i := by
    refine (congrFun (multiReductionI_eq_reduceFold (kind := .add) (src := x) (h := reduces_S1x4x128_S1) (hacc := rfl)) j).trans ?_
    refine (reduceFold_add_eq_sum reduces_S1x4x128_S1 (0#32 : BitVec 32) x j).trans ?_
    rw [Finset.filter_true_of_mem fun i _ => all i j]
    exact zero_add _
  have e := (red (shapeCast S1x4x128 (shapeCast S4x128 s shapeCasts_S4x128_S4x128) shapeCasts_S4x128_S1x4x128)
    (Shape.reshapeEquiv shapeCasts_S1_S1x1x1 fun a => ⟨![0, 0, 0] a, inpos_S1x1x1_p0_0_0 a⟩)).trans ((sum_shapeCast _ _).trans (sum_shapeCast _ _))
  exact congrArg (fun b : BitVec 32 => ((b.toInt : ℝ) : EReal)) e

/-- Lane `e` of the first two is lane `e` of the row. -/
theorem firstTwo_apply (x : S1x128.Idx → Elt Ideal .f32) (e : Fin 2) : firstTwo x (ix1 e) = x (ix2 (0 : Fin 1) (e.castLE (by decide) : Fin 128)) := by
  refine (Routing.cast21 (a := 1) (b := 2) (n := 2) _ _ 0 e e (by simp)).trans (congrArg x (funext fun a => Fin.ext ?_))
  match a with
  | ⟨0, _⟩ => rfl
  | ⟨1, _⟩ => exact Nat.zero_add _

/-- Two vectors of two are equal when their entries are. -/
theorem ext_two {α : Type} {f g : S2.Idx → α} (h0 : f (ix1 (0 : Fin 2)) = g (ix1 (0 : Fin 2))) (h1 : f (ix1 (1 : Fin 2)) = g (ix1 (1 : Fin 2))) : f = g := by
  funext j
  rw [eq_ix1 j]
  exact (Fin.forall_fin_two (p := fun e => f (ix1 e) = g (ix1 e))).mpr ⟨h0, h1⟩ (j 0)

/-- The counts' row at class 0. -/
theorem countsRow_zero (s : Vec Ideal S4x128 .i32) (o : Vec Ideal S2 .f32) : firstTwo (countsRow s o) (ix1 0) = k1_pay3 s (o (ix1 0)) := by
  rw [firstTwo_apply]; rfl

/-- The counts' row at class 1. -/
theorem countsRow_one (s : Vec Ideal S4x128 .i32) (o : Vec Ideal S2 .f32) : firstTwo (countsRow s o) (ix1 1) = k1_pay4 s (o (ix1 1)) := by
  rw [firstTwo_apply]; rfl

/-- The weights' row at class 0. -/
theorem weightsRow_zero (s : Vec Ideal S4x128 .i32) (o : Vec Ideal S2 .f32) : firstTwo (weightsRow s o) (ix1 0) = k1_pay11 s (o (ix1 0)) (o (ix1 1)) := by
  rw [firstTwo_apply]; rfl

/-- The weights' row at class 1. -/
theorem weightsRow_one (s : Vec Ideal S4x128 .i32) (o : Vec Ideal S2 .f32) : firstTwo (weightsRow s o) (ix1 1) = k1_pay12 s (o (ix1 0)) (o (ix1 1)) := by
  rw [firstTwo_apply]; rfl

/-! ## The reference -/

/-- The reference's updated counts. -/
def refCounts (y : IVec Many 32) (o : FVec Ideal S2 .f32) : FVec Ideal S2 .f32 :=
  addf (mulf (broadcastInDim Cert.ReferenceIdeal.S2 ![] Cert.ReferenceIdeal.Facts₀.bcast_S_S2 (constant Cert.ReferenceIdeal.S_ .f32 0x3F7D70A4#32)) o)
    (mulf (broadcastInDim Cert.ReferenceIdeal.S2 ![] Cert.ReferenceIdeal.Facts₀.bcast_S_S2 (constant Cert.ReferenceIdeal.S_ .f32 0x3C23D70A#32)) (sitofp .f32 (histogram y)))

/-- The reference's updated counts, each raised by one. -/
def refRaised (u : FVec Ideal S2 .f32) : FVec Ideal S2 .f32 :=
  addf u (broadcastInDim Cert.ReferenceIdeal.S2 ![] Cert.ReferenceIdeal.Facts₀.bcast_S_S2 (constant Cert.ReferenceIdeal.S_ .f32 0x3F800000#32))

/-- A vector of two summed on the host. -/
def refSum (u : FVec Ideal S2 .f32) : FVec Ideal Cert.ReferenceIdeal.S_ .f32 :=
  Host.reduceAdd u (constant Cert.ReferenceIdeal.S_ .f32 0x00000000#32) Cert.ReferenceIdeal.Facts₀.reducesTo_S2_S_d0 Cert.ReferenceIdeal.Facts₀.h_S_

/-- The reference's weights before they are scaled by their mean. -/
def refShares (u : FVec Ideal S2 .f32) : FVec Ideal S2 .f32 :=
  Host.divf (broadcastInDim Cert.ReferenceIdeal.S2 ![] Cert.ReferenceIdeal.Facts₀.bcast_S_S2 (refSum (refRaised u)))
    (mulf (broadcastInDim Cert.ReferenceIdeal.S2 ![] Cert.ReferenceIdeal.Facts₀.bcast_S_S2 (constant Cert.ReferenceIdeal.S_ .f32 0x40000000#32)) (refRaised u))

/-- The reference's weights. -/
def refWeights (u : FVec Ideal S2 .f32) : FVec Ideal S2 .f32 :=
  Host.divf (refShares u) (broadcastInDim Cert.ReferenceIdeal.S2 ![] Cert.ReferenceIdeal.Facts₀.bcast_S_S2
    (addf (Host.divf (refSum (refShares u)) (constant Cert.ReferenceIdeal.S_ .f32 0x40000000#32)) (constant Cert.ReferenceIdeal.S_ .f32 0x322BCC77#32)))

/-- A vector of two sums to its two entries' sum. -/
theorem refSum_apply (u : FVec Ideal S2 .f32) (j : (Cert.ReferenceIdeal.S_).Idx) : refSum u j = u (ix1 0) + u (ix1 1) := by
  have all (i : S2.Idx) : (Cert.ReferenceIdeal.Facts₀.reducesTo_S2_S_d0).drop i = j := funext fun a => a.elim0
  rw [refSum, hostReduceAdd_apply, Ideal.hostReduceAdd, Finset.filter_true_of_mem fun i _ => all i,
    ← Equiv.sum_comp (idxEquiv1 (n := 2)).symm u, Fin.sum_univ_two]
  refine (congrArg (· + _) ?_).trans (zero_add _)
  exact Ideal.ofBits_zero_f32

/-! ## Equal -/

variable {y : Many.Idx → BitVec 32} (h : TwoClasses y) {s : Vec Ideal S4x128 .i32} (hs : ∑ j, s j = total y) (o : FVec Ideal S2 .f32)

include h hs

/-- Class 0's updated count. -/
theorem pay3_eq : k1_pay3 s (o (ix1 0)) = refCounts y o (ix1 0) := by
  show Ideal.ofBits .f32 0x3F7D70A4#32 * o (ix1 0) + Ideal.ofBits .f32 0x3C23D70A#32 * (Ideal.ofBits .f32 0x4B000000#32 - k1_pay2 (F := Ideal) s)
    = Ideal.ofBits .f32 0x3F7D70A4#32 * o (ix1 0) + Ideal.ofBits .f32 0x3C23D70A#32 * (((histogram y (ix1 0)).toInt : ℝ) : EReal)
  rw [histogram_zero h, toInt_rest h, pay2_eq, hs, toInt_total h, ofBits_many, ← EReal.coe_sub]
  push_cast
  rfl

/-- Class 1's updated count. -/
theorem pay4_eq : k1_pay4 s (o (ix1 1)) = refCounts y o (ix1 1) := by
  show Ideal.ofBits .f32 0x3F7D70A4#32 * o (ix1 1) + Ideal.ofBits .f32 0x3C23D70A#32 * k1_pay2 (F := Ideal) s
    = Ideal.ofBits .f32 0x3F7D70A4#32 * o (ix1 1) + Ideal.ofBits .f32 0x3C23D70A#32 * (((histogram y (ix1 1)).toInt : ℝ) : EReal)
  rw [histogram_one h, pay2_eq, hs]

/-- The updated counts are the reference's. -/
theorem counts_eq : firstTwo (countsRow s o) = refCounts y o := by
  refine ext_two ?_ ?_
  · rw [countsRow_zero, pay3_eq h hs]
  · rw [countsRow_one, pay4_eq h hs]

/-- Class 0's raised count. -/
theorem pay5_eq : k1_pay5 s (o (ix1 0)) = refRaised (refCounts y o) (ix1 0) := by
  show k1_pay3 s (o (ix1 0)) + _ = refCounts y o (ix1 0) + _
  rw [pay3_eq h hs]; rfl

/-- Class 1's raised count. -/
theorem pay6_eq : k1_pay6 s (o (ix1 1)) = refRaised (refCounts y o) (ix1 1) := by
  show k1_pay4 s (o (ix1 1)) + _ = refCounts y o (ix1 1) + _
  rw [pay4_eq h hs]; rfl

/-- The raised counts' sum. -/
theorem pay7_eq (j : (Cert.ReferenceIdeal.S_).Idx) : k1_pay7 s (o (ix1 0)) (o (ix1 1)) = refSum (refRaised (refCounts y o)) j := by
  show k1_pay5 s (o (ix1 0)) + k1_pay6 s (o (ix1 1)) = _
  rw [refSum_apply, pay5_eq h hs, pay6_eq h hs]

/-- Class 0's unscaled weight. -/
theorem pay8_eq : k1_pay8 s (o (ix1 0)) (o (ix1 1)) = refShares (refCounts y o) (ix1 0) := by
  show Ideal.div (k1_pay7 s (o (ix1 0)) (o (ix1 1))) (Ideal.ofBits .f32 0x40000000#32 * k1_pay5 s (o (ix1 0))) = _
  rw [pay7_eq h hs o ix0, pay5_eq h hs]
  rw [refShares, hostDivf_apply, broadcastInDim_scalar_apply]
  rfl

/-- Class 1's unscaled weight. -/
theorem pay9_eq : k1_pay9 s (o (ix1 0)) (o (ix1 1)) = refShares (refCounts y o) (ix1 1) := by
  show Ideal.div (k1_pay7 s (o (ix1 0)) (o (ix1 1))) (Ideal.ofBits .f32 0x40000000#32 * k1_pay6 s (o (ix1 1))) = _
  rw [pay7_eq h hs o ix0, pay6_eq h hs]
  rw [refShares, hostDivf_apply, broadcastInDim_scalar_apply]
  rfl

/-- The unscaled weights' mean. -/
theorem pay10_eq : k1_pay10 s (o (ix1 0)) (o (ix1 1)) = Ideal.div (refSum (refShares (refCounts y o)) ix0) (Ideal.ofBits .f32 0x40000000#32) := by
  show (k1_pay8 s (o (ix1 0)) (o (ix1 1)) + k1_pay9 s (o (ix1 0)) (o (ix1 1))) * Ideal.ofBits .f32 0x3F000000#32 = _
  rw [div_two, refSum_apply, pay8_eq h hs, pay9_eq h hs]

/-- The weights are the reference's. -/
theorem weights_eq : firstTwo (weightsRow s o) = refWeights (refCounts y o) := by
  refine ext_two ?_ ?_
  · rw [weightsRow_zero, refWeights, hostDivf_apply, broadcastInDim_scalar_apply]
    show Ideal.div (k1_pay8 s (o (ix1 0)) (o (ix1 1))) (k1_pay10 s (o (ix1 0)) (o (ix1 1)) + Ideal.ofBits .f32 0x322BCC77#32) = _
    rw [pay8_eq h hs, pay10_eq h hs]
    rfl
  · rw [weightsRow_one, refWeights, hostDivf_apply, broadcastInDim_scalar_apply]
    show Ideal.div (k1_pay9 s (o (ix1 0)) (o (ix1 1))) (k1_pay10 s (o (ix1 0)) (o (ix1 1)) + Ideal.ofBits .f32 0x322BCC77#32) = _
    rw [pay9_eq h hs, pay10_eq h hs]
    rfl

end Cert.Proof.LabelSum

end
-- ==== Proof.Claims.lean ====
/-
  The claims: the frames of the printed program, of its ideal reading and of the reference, and the two results' equality for labels
  in range.
-/
module

public import proofs.«01_k».proof.Defs
public import proofs.«01_k».proof.Proof.Values
public import proofs.«01_k».proof.Proof.Gen.Kernel
public import proofs.«01_k».proof.Proof.Gen.ReferenceIdeal.Run
public import Idealize.ShloMosaic.Init

@[expose] public section

noncomputable section

namespace Cert.Proof.LabelSum

open Idealize.ShloMosaic Idealize.SL.Sem

/-- The printed program runs, keeps its arguments and leaves every semaphore at zero. -/
theorem frame_kernel : Cert.quiescent_Kernel := fun m g _ => run_printed m g

/-- The program's ideal reading runs, keeps its arguments and leaves every semaphore at zero. -/
theorem frame_ideal : Cert.quiescent_KernelIdeal := fun m g _ =>
  (θ_run Cert.KernelIdeal.defs _ _).mono (fun _ h => ⟨fun c => (h.1 c).2.2, h.2⟩) (run_results m g)

/-- The reference runs, keeps its arguments and leaves every semaphore at zero. -/
theorem frame_reference : Cert.quiescent_ReferenceIdeal := fun m g _ =>
  (θ_run Cert.ReferenceIdeal.defs _ _).mono (fun r h => ⟨fun c => (h c).2.2, sem_eq_zero_of_no_sems (by decide) r.2⟩) (Cert.ReferenceIdeal.Value.run m g)

/-- The reference ends with the counts and the weights as named. -/
theorem reference_results (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      ∀ c : Dev Cert.ReferenceIdeal.nD,
        r.2.mem ((c.tc : Thread Cert.ReferenceIdeal.nD Cert.ReferenceIdeal.τ).loc Cert.ReferenceIdeal.main_v15)
          = refCounts (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v27)
          = refWeights (refCounts (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run Cert.ReferenceIdeal.defs _ _).mono (fun _ h c => ⟨(h c).1.trans rfl, (h c).2.1.trans rfl, (h c).2.2⟩) (Cert.ReferenceIdeal.Value.run m g)

/-- The partial sums as the TensorCore call takes them add up to the labels' sum. -/
theorem sum_stacked (m : (ℓ : Loc Cert.KernelIdeal.nD Cert.KernelIdeal.τ Cert.KernelIdeal.sig) → Buf (Elt Ideal) ℓ) (d : Dev Cert.KernelIdeal.nD) :
    ∑ j, stacked m d j = total (m (yLoc d)) :=
  (sum_shapeCast _ _).trans (sum_partials _)

/-- The kernel and the reference end with equal results where every label is one of the two classes. -/
theorem results_equal : Cert.algebraic_KernelIdeal_ReferenceIdeal_pre_labels_in_range := fun m g m' g' hpre heq => by
  have two (c : Dev Cert.KernelIdeal.nD) : TwoClasses (m (yLoc c)) := twoClasses_of_pre _ _ (hpre c)
  refine ⟨fun c => firstTwo (countsRow (stacked m c) (m (cLoc c))), fun c => firstTwo (weightsRow (stacked m c) (m (cLoc c))),
    (θ_run Cert.KernelIdeal.defs _ _).mono (fun _ h => h.1) (run_results m g),
    (θ_run Cert.ReferenceIdeal.defs _ _).mono (fun r h c => ?_) (reference_results m' g')⟩
  obtain ⟨h0, h1, hargs⟩ := h c
  obtain ⟨e0, e1⟩ := heq c
  refine ⟨h0.trans ?_, h1.trans ?_, hargs⟩
  · rw [e0, e1]
    exact (counts_eq (two c) (sum_stacked m c) (m (cLoc c))).symm
  · rw [e0, e1]
    exact (weights_eq (two c) (sum_stacked m c) (m (cLoc c))).symm

end Cert.Proof.LabelSum

end
-- ==== Proof.lean ====
/-
  The assembled proof of `Cert.Claim`: the frames of the printed program, of its ideal reading and of the reference, the ideal
  reading's being the program's own text, and the two results' equality. The mathematics is in the modules under Proof/.
-/
module

public import proofs.«01_k».proof.Defs
public import proofs.«01_k».proof.Proof.Claims
public import proofs.«01_k».proof.Proof.Gen.Pre_labels_in_range

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_labels_in_range.Gen.facts,
  LabelSum.frame_kernel, LabelSum.frame_ideal, fun m g _ => LabelSum.frame_ideal m g trivial, LabelSum.frame_reference,
  fun m g _ => LabelSum.frame_reference m g trivial, trivial, LabelSum.results_equal⟩

end Cert.Proof

end
